-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S3x512x512 : Shape := ⟨3, ![3, 512, 512]⟩
abbrev S3x3 : Shape := ⟨2, ![3, 3]⟩
abbrev S_ : Shape := ⟨0, ![]⟩
abbrev S176x256 : Shape := ⟨2, ![176, 256]⟩
abbrev S176x512 : Shape := ⟨2, ![176, 512]⟩
abbrev S1x1 : Shape := ⟨2, ![1, 1]⟩
abbrev S1x176x512 : Shape := ⟨3, ![1, 176, 512]⟩
abbrev S160x256 : Shape := ⟨2, ![160, 256]⟩
abbrev S160x512 : Shape := ⟨2, ![160, 512]⟩
abbrev S1x160x512 : Shape := ⟨3, ![1, 160, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S512x512, .f32⟩
  | .local _ .vmem, ⟨0, _⟩ => ⟨S512x256, .bf16⟩
  | .local _ .vmem, ⟨1, _⟩ => ⟨S256x512, .bf16⟩
  | .local _ .vmem, ⟨2, _⟩ => ⟨S512x512, .f32⟩
  | .local _ .vmem, ⟨3, _⟩ => ⟨S512x512, .bf16⟩
  | .local _ .vmem, ⟨4, _⟩ => ⟨S3x512x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v22 : BitVec 32 := Scalar.xori v2 c1_i32_15
  let c1_i32_21 : BitVec 32 := 1#32
  let v23 : BitVec 32 := Scalar.muli v22 c1_i32_21
  let v24 : BitVec 32 := Scalar.addi c0_i32_22 v23
  v24.toNat
def k0_dev5 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v39 : BitVec 32 := Scalar.xori v2 c3_i32_31
  let c1_i32_37 : BitVec 32 := 1#32
  let v40 : BitVec 32 := Scalar.muli v39 c1_i32_37
  let v41 : BitVec 32 := Scalar.addi c0_i32_38 v40
  v41.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_46 : BitVec 32 := 4#32
  let v56 : BitVec 32 := Scalar.xori v2 c4_i32_46
  let c1_i32_51 : BitVec 32 := 1#32
  let v57 : BitVec 32 := Scalar.muli v56 c1_i32_51
  let v58 : BitVec 32 := Scalar.addi c0_i32_52 v57
  v58.toNat
def k0_dev7 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_84 : BitVec 32 := 3#32
  let v85 : BitVec 32 := Scalar.xori v2 c3_i32_84
  let c1_i32_90 : BitVec 32 := 1#32
  let v86 : BitVec 32 := Scalar.muli v85 c1_i32_90
  let v87 : BitVec 32 := Scalar.addi c0_i32_91 v86
  v87.toNat
def k0_dev8 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v114 : BitVec 32 := Scalar.xori v2 c4_i32_124
  let c1_i32_130 : BitVec 32 := 1#32
  let v115 : BitVec 32 := Scalar.muli v114 c1_i32_130
  let v116 : BitVec 32 := Scalar.addi c0_i32_131 v115
  v116.toNat
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_164 : BitVec 32 := 1#32
  let v143 : BitVec 32 := Scalar.xori v2 c1_i32_164
  let c1_i32_170 : BitVec 32 := 1#32
  let v144 : BitVec 32 := Scalar.muli v143 c1_i32_170
  let v145 : BitVec 32 := Scalar.addi c0_i32_171 v144
  v145.toNat
def k0_dev10 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_203 : BitVec 32 := 4#32
  let v172 : BitVec 32 := Scalar.xori v2 c4_i32_203
  let c1_i32_209 : BitVec 32 := 1#32
  let v173 : BitVec 32 := Scalar.muli v172 c1_i32_209
  let v174 : BitVec 32 := Scalar.addi c0_i32_210 v173
  v174.toNat
def k0_dev11 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_243 : BitVec 32 := 1#32
  let v201 : BitVec 32 := Scalar.xori v2 c1_i32_243
  let c1_i32_249 : BitVec 32 := 1#32
  let v202 : BitVec 32 := Scalar.muli v201 c1_i32_249
  let v203 : BitVec 32 := Scalar.addi c0_i32_250 v202
  v203.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_283 : BitVec 32 := 3#32
  let v230 : BitVec 32 := Scalar.xori v2 c3_i32_283
  let c1_i32_289 : BitVec 32 := 1#32
  let v231 : BitVec 32 := Scalar.muli v230 c1_i32_289
  let v232 : BitVec 32 := Scalar.addi c0_i32_290 v231
  v232.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S512x512, .f32⟩
  | .hbm, ⟨3, _⟩ => ⟨S512x512, .bf16⟩
  | .hbm, ⟨4, _⟩ => ⟨S512x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Blocks.lean ====
/-
The vocabulary of the all-reduce: the three partners of a device, the nine exchanges, the row blocks of the
accumulator and the slots of the receive buffer as sets of elements, and what the accumulator holds after each
step. Nothing here speaks of an execution.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL.Sem ValueIdx

variable {F : FTy → Type} [FloatOps F]

/-! ## Partners and exchanges -/

/-- The partner of device `c` in direction `k`: the device whose number differs by the mask 1, 3 or 4. -/
def pt (k : Fin 3) (c : Dev nD) : Dev nD := Fin.ofNat 8 (Nat.xor c.val ((![1, 3, 4] : Fin 3 → ℕ) k))

/-- Being partners in a direction is mutual. -/
theorem pt_pt (k : Fin 3) (c : Dev nD) : pt k (pt k c) = c := by revert k c; decide
/-- The partners of a device in two directions are different devices. -/
theorem pt_inj_dir (k k' : Fin 3) (c : Dev nD) (h : pt k c = pt k' c) : k = k' := by revert k k' c; decide
theorem pt_eq_iff (k : Fin 3) (c d : Dev nD) : pt k c = d ↔ c = pt k d := by revert k c d; decide

/-- Exchange `i` belongs to step `i / 3`, -/
def stp (i : Fin 9) : ℕ := i.val / 3
/-- moves the row block `i % 3`, -/
def blk (i : Fin 9) : Fin 3 := ⟨i.val % 3, Nat.mod_lt _ (by decide)⟩
/-- and goes to the partner in the direction that step and block add up to. -/
def dirAt (s : ℕ) (p : Fin 3) : Fin 3 := ⟨(s + p.val) % 3, Nat.mod_lt _ (by decide)⟩
def dir (i : Fin 9) : Fin 3 := dirAt (stp i) (blk i)

theorem stp_lt (i : Fin 9) : stp i < 3 := by revert i; decide

/-! ## Row blocks -/

/-- The first row of each block, -/
def off : Fin 3 → ℕ := ![0, 176, 352]
/-- and its number of rows. -/
def ht : Fin 3 → ℕ := ![176, 176, 160]
/-- The block a row lies in. -/
def rb (x : ℕ) : Fin 3 := if x < 176 then 0 else if x < 352 then 1 else 2

theorem ht_pos (p : Fin 3) : 0 < ht p := by revert p; decide
theorem off_ht (p : Fin 3) : off p + ht p ≤ 512 := by revert p; decide
theorem rb_eq_iff (p : Fin 3) (x : ℕ) (hx : x < 512) : rb x = p ↔ off p ≤ x ∧ x < off p + ht p := by
  unfold rb
  fin_cases p <;> simp only [off, ht] <;> split_ifs <;> simp <;> omega

/-- The accumulator's elements in block `p`; -/
def accSet (p : Fin 3) : Finset S512x512.Idx := Finset.univ.filter fun x => rb (x 0).val = p
/-- the receive buffer's elements that exchange `i` fills. -/
def slotSet (i : Fin 9) : Finset S3x512x512.Idx :=
  Finset.univ.filter fun x => (x 0).val = stp i ∧ rb (x 1).val = blk i

theorem mem_accSet {p : Fin 3} {x : S512x512.Idx} : x ∈ accSet p ↔ rb (x 0).val = p := by
  unfold accSet; rw [Finset.mem_filter]; exact and_iff_right (Finset.mem_univ _)
theorem mem_slotSet {i : Fin 9} {x : S3x512x512.Idx} : x ∈ slotSet i ↔ (x 0).val = stp i ∧ rb (x 1).val = blk i := by
  unfold slotSet; rw [Finset.mem_filter]; exact and_iff_right (Finset.mem_univ _)

theorem accSet_disjoint {p p' : Fin 3} (h : p ≠ p') : Disjoint (accSet p) (accSet p') :=
  Finset.disjoint_left.mpr fun x hx hx' => h ((mem_accSet.mp hx).symm.trans (mem_accSet.mp hx'))
theorem slot_ext (i j : Fin 9) (h : stp i = stp j) (h' : blk i = blk j) : i = j := by revert i j; decide
theorem slotSet_disjoint {i j : Fin 9} (h : i ≠ j) : Disjoint (slotSet i) (slotSet j) :=
  Finset.disjoint_left.mpr fun x hx hx' => h (slot_ext i j
    ((mem_slotSet.mp hx).1.symm.trans (mem_slotSet.mp hx').1) ((mem_slotSet.mp hx).2.symm.trans (mem_slotSet.mp hx').2))
theorem accSet_cover : (Finset.univ : Finset (Fin 3)).biUnion accSet = Finset.univ :=
  Finset.eq_univ_iff_forall.mpr fun x => Finset.mem_biUnion.mpr ⟨rb (x 0).val, Finset.mem_univ _, mem_accSet.mpr rfl⟩
theorem slot_of (s : ℕ) (hs : s < 3) (p : Fin 3) : ∃ i : Fin 9, stp i = s ∧ blk i = p :=
  ⟨⟨3 * s + p.val, by omega⟩, by unfold stp; simp only; omega, Fin.ext (by unfold blk; simp only; omega)⟩
theorem slotSet_cover : (Finset.univ : Finset (Fin 9)).biUnion slotSet = Finset.univ :=
  Finset.eq_univ_iff_forall.mpr fun x => by
    obtain ⟨i, h, h'⟩ := slot_of (x 0).val (x 0).isLt (rb (x 1).val)
    exact Finset.mem_biUnion.mpr ⟨i, Finset.mem_univ _, mem_slotSet.mpr ⟨h.symm, h'.symm⟩⟩

/-! ## What the accumulator holds -/

/-- The row of a block of `h` rows from row `o` that a row of the whole array is. -/
def down (o h : ℕ) (hh : 0 < h) (x : S512x512.Idx) : (⟨2, ![h, 512]⟩ : Shape).Idx := ix2 ⟨((x 0).val - o) % h, Nat.mod_lt _ hh⟩ (x 1)

/-- `h` rows of the left operand from row `o`. -/
abbrev rowsOf (o h : ℕ) (inb : ∀ a, (![o, 0] : Fin 2 → ℕ) a + (![h, 256] : Fin 2 → ℕ) a ≤ S512x256.size a)
    (A : S512x256.Idx → Elt F .bf16) : (⟨2, ![h, 256]⟩ : Shape).Idx → Elt F .bf16 :=
  fun j => A ((Rect.unit (s := S512x256) ![o, 0] ![h, 256] inb).emb j)

/-- The local partial product, block by block. -/
def prod (A : S512x256.Idx → Elt F .bf16) (B : S256x512.Idx → Elt F .bf16) : S512x512.Idx → Elt F .bf16 := fun x =>
  match rb (x 0).val with
  | ⟨0, _⟩ => k0_pay3 B (rowsOf 0 176 inb_S512x256_S176x256_0_0 A) (down 0 176 (by decide) x)
  | ⟨1, _⟩ => k0_pay4 (k0_pay2 B) (rowsOf 176 176 inb_S512x256_S176x256_176_0 A) (down 176 176 (by decide) x)
  | ⟨_, _⟩ => k0_pay6 (k0_pay5 (k0_pay2 B) (rowsOf 352 160 inb_S512x256_S160x256_352_0 A)) (down 352 160 (by decide) x)

section Contents
variable (A : Dev nD → S512x256.Idx → Elt F .bf16) (B : Dev nD → S256x512.Idx → Elt F .bf16)

/-- The accumulator of device `c` after `n` steps: each step adds, row block by row block, the partner's. -/
def W : ℕ → Dev nD → S512x512.Idx → Elt F .bf16
  | 0, c => prod (A c) (B c)
  | n + 1, c => fun x => FloatOps.addf (W n c x) (W n (pt (dirAt n (rb (x 0).val)) c) x)

/-- What the receive buffer of device `c` holds once every exchange has landed. -/
def landed (c : Dev nD) : S3x512x512.Idx → Elt F .bf16 :=
  fun x => W A B (x 0).val (pt (dirAt (x 0).val (rb (x 1).val)) c) (ix2 (x 1) (x 2))

/-- The result of device `c`: the accumulator after three steps, widened. -/
def outAt (c : Dev nD) : S512x512.Idx → Elt F .f32 := fun x => FloatOps.extf .f32 bitsLt_bf16_f32 (W A B 3 c x)

end Contents

end Cert.KernelIdeal.Run

end
-- ==== Proof.KernelIdeal.Schedule.lean ====
/-
The protocol of the all-reduce under the rounds library: which semaphore cells take part, who pays each of them
how much and with what contents, what a device owes at launch, and why none of its waits can be stuck.
-/
module

public import proofs.«01_k».proof.Proof.KernelIdeal.Blocks

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx

variable {F : FTy → Type} [FloatOps F]

/-! ## The resource algebra: the pipeline's copy, and the exchange's with three duty names -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores and cells -/

/-- The barrier semaphore, -/
abbrev barS : Sem sig := (SemArray.scalar (sig.barrier 0 rfl) : Sems sig S_).sem
/-- the send semaphore of exchange `i`, -/
def sendS (i : Fin 9) : DmaSem sig := ⟨3 + i.val, by have := i.isLt; show _ < 21; omega⟩
/-- and its receive semaphore. -/
def recvS (i : Fin 9) : DmaSem sig := ⟨12 + i.val, by have := i.isLt; show _ < 21; omega⟩

abbrev barCell (c : Dev nD) : GSem nD τ sig := ((c : Thread nD τ), .reg barS)
abbrev sendCell (c : Dev nD) (i : Fin 9) : GSem nD τ sig := ((c : Thread nD τ), .dma (sendS i))
abbrev recvCell (c : Dev nD) (i : Fin 9) : GSem nD τ sig := ((c : Thread nD τ), .dma (recvS i))

/-- The exchange a transfer semaphore serves. -/
def ixOf (q : DmaSem sig) : Fin 9 := ⟨(q.val - 3) % 9, Nat.mod_lt _ (by decide)⟩
/-- It is a receive semaphore. -/
abbrev IsRecv (q : DmaSem sig) : Prop := 12 ≤ q.val

theorem ixOf_send (i : Fin 9) : ixOf (sendS i) = i := by revert i; decide
theorem ixOf_recv (i : Fin 9) : ixOf (recvS i) = i := by revert i; decide
theorem send_not_recv (i : Fin 9) : ¬ IsRecv (sendS i) := by revert i; decide
theorem recv_isRecv (i : Fin 9) : IsRecv (recvS i) := by revert i; decide

/-- The credit of a transfer of `h` rows. -/
def credit (h : ℕ) : ℕ := RefSig.tileCredit ⟨2, ![h, 512]⟩ .bf16
/-- The credit of exchange `i`. -/
def amt (i : Fin 9) : ℕ := credit (ht (blk i))
theorem credit_pos (h : ℕ) (hh : 0 < h) : 0 < credit h :=
  RefSig.tileCredit_pos _ _ (by
    show 0 < ∏ a, (![h, 512] : Fin 2 → ℕ) a
    rw [Fin.prod_univ_two]; exact Nat.mul_pos hh (Nat.succ_pos 511))
theorem amt_pos (i : Fin 9) : 0 < amt i := credit_pos _ (ht_pos _)

/-! ## Parts of the two scratch buffers -/

/-- Block `p` of device `c`'s accumulator, at the contents `f`. -/
def accPts (c : Dev nD) (p : Fin 3) (f : S512x512.Idx → Elt F .bf16) : sProp 𝕄 :=
  ((c : Thread nD τ).loc cc0_scratch0) ↦[accSet p]{fullShare} f
/-- The slot of exchange `i` in device `c`'s receive buffer, at the contents `f`. -/
def slotPts (c : Dev nD) (i : Fin 9) (f : S3x512x512.Idx → Elt F .bf16) : sProp 𝕄 :=
  ((c : Thread nD τ).loc cc0_scratch1) ↦[slotSet i]{fullShare} f
/-- That slot at some contents. -/
def slotAny (c : Dev nD) (i : Fin 9) : sProp 𝕄 := iprop(∃ f, slotPts (F := F) c i f)

omit [FloatOps F] in
instance accPts_storable (c : Dev nD) (p f) : BI.Storable (upEmb : UEmb _ 𝕄) (accPts (F := F) c p f) := by
  unfold accPts; infer_instance
omit [FloatOps F] in
instance slotPts_storable (c : Dev nD) (i f) : BI.Storable (upEmb : UEmb _ 𝕄) (slotPts (F := F) c i f) := by
  unfold slotPts; infer_instance
omit [FloatOps F] in
instance slotAny_storable (c : Dev nD) (i) : BI.Storable (upEmb : UEmb _ 𝕄) (slotAny (F := F) c i) := by
  unfold slotAny; infer_instance

/-- The exchange of step `s` whose direction is `k`. -/
def ex (k s : Fin 3) : Fin 9 := ⟨3 * s.val + (k.val + 2 * s.val) % 3, by omega⟩
theorem dir_ex (k s : Fin 3) : dir (ex k s) = k := by revert k s; decide

/-! ## The schedule -/

section Sched
variable (A : Dev nD → S512x256.Idx → Elt F .bf16) (B : Dev nD → S256x512.Idx → Elt F .bf16)

/-- What the partner in direction `k` hands device `c` with its barrier signal: its own slots for the exchanges in that direction. -/
def barPay (c : Dev nD) (k : Fin 3) : sProp 𝕄 :=
  iprop(slotAny (pt k c) (ex k 0) ∗ slotAny (pt k c) (ex k 1) ∗ slotAny (pt k c) (ex k 2))
/-- What a finished send gives back: the block sent, unchanged; -/
def sendPay (c : Dev nD) (i : Fin 9) : sProp 𝕄 := accPts c (blk i) (W A B (stp i) c)
/-- what a finished receive gives: the slot, holding the partner's block. -/
def recvPay (c : Dev nD) (i : Fin 9) : sProp 𝕄 := slotPts c i (landed A B c)

/-- One round: the barrier cell has three duties of one unit, a send or a receive cell one duty of its transfer's credit. -/
def sys : Rounds.Schedule (GSem nD τ sig) (Fin 3) 𝕄 where
  duties g r := if r = 0 ∧ g.1.2 = .tc then
      (match g.2 with | .reg _ => Finset.univ | .dma q => if 3 ≤ q.val then {0} else ∅) else ∅
  unitless _ := False
  amount g _ _ := match g.2 with | .reg _ => 1 | .dma q => amt (ixOf q)
  payload g _ d := match g.2 with
    | .reg _ => barPay g.1.1 d
    | .dma q => if IsRecv q then recvPay A B g.1.1 (ixOf q) else sendPay A B g.1.1 (ixOf q)
  amount_pos g _ _ _ := by
    rcases g with ⟨t, sm⟩
    cases sm
    · exact Nat.one_pos
    · exact amt_pos _

instance sys_storable (g : GSem nD τ sig) (r : ℕ) (d : Fin 3) :
    BI.Storable (upEmb : UEmb _ 𝕄) ((sys (F := F) A B).payload g r d) := by
  rcases g with ⟨t, sm⟩
  cases sm with
  | reg s => show BI.Storable upEmb (barPay t.1 d); unfold barPay; infer_instance
  | dma q =>
    show BI.Storable upEmb (if IsRecv q then recvPay A B t.1 (ixOf q) else sendPay A B t.1 (ixOf q))
    unfold recvPay sendPay; split <;> infer_instance

variable (c : Dev nD) (i : Fin 9)

theorem duties_bar : (sys A B).duties (barCell c) 0 = Finset.univ := by dsimp only [sys]; exact if_pos ⟨rfl, rfl⟩
theorem duties_send : (sys A B).duties (sendCell c i) 0 = {0} := by
  dsimp only [sys]; rw [if_pos ⟨rfl, rfl⟩]; exact if_pos (by unfold sendS; simp)
theorem duties_recv : (sys A B).duties (recvCell c i) 0 = {0} := by
  dsimp only [sys]; rw [if_pos ⟨rfl, rfl⟩]; exact if_pos (by unfold recvS; simp; omega)
theorem duties_later (g : GSem nD τ sig) : ∀ r, 1 ≤ r → (sys A B).duties g r = ∅ :=
  fun r hr => by dsimp only [sys]; rw [if_neg fun h => by omega]

theorem amount_bar (d : Fin 3) : (sys A B).amount (barCell c) 0 d = 1 := rfl
theorem amount_send (d : Fin 3) : (sys A B).amount (sendCell c i) 0 d = amt i := by
  dsimp only [sys]; rw [ixOf_send]
theorem amount_recv (d : Fin 3) : (sys A B).amount (recvCell c i) 0 d = amt i := by
  dsimp only [sys]; rw [ixOf_recv]

theorem expect_bar : (sys A B).expect (barCell c) 0 = 3 := by
  unfold Schedule.expect Schedule.amountOf
  rw [duties_bar, Finset.sum_congr rfl fun d _ => amount_bar A B c d]; rfl
theorem expect_send : (sys A B).expect (sendCell c i) 0 = amt i := by
  unfold Schedule.expect Schedule.amountOf; rw [duties_send, Finset.sum_singleton, amount_send]
theorem expect_recv : (sys A B).expect (recvCell c i) 0 = amt i := by
  unfold Schedule.expect Schedule.amountOf; rw [duties_recv, Finset.sum_singleton, amount_recv]

theorem payload_bar (d : Fin 3) : (sys A B).payload (barCell c) 0 d = barPay c d := rfl
theorem payload_send (d : Fin 3) : (sys A B).payload (sendCell c i) 0 d = sendPay A B c i := by
  dsimp only [sys]; rw [if_neg (send_not_recv i), ixOf_send]
theorem payload_recv (d : Fin 3) : (sys A B).payload (recvCell c i) 0 d = recvPay A B c i := by
  dsimp only [sys]; rw [if_pos (recv_isRecv i), ixOf_recv]

/-- All that a device's barrier wait collects: the three partners' slots. -/
theorem rest_bar : bigSep ((sys A B).duties (barCell c) 0 \ ∅) (fun d => (sys A B).payload (barCell c) 0 d)
    = iprop(barPay c 0 ∗ barPay c 1 ∗ barPay c 2) := by
  rw [Finset.sdiff_empty, duties_bar, bigSep_univ_eq_bigSepL [0, 1, 2] (by decide) (by decide), bigSepL_cons_cons,
    bigSepL_cons_cons, bigSepL_singleton]
  rfl
theorem rest_send : bigSep ((sys A B).duties (sendCell c i) 0 \ ∅) (fun d => (sys A B).payload (sendCell c i) 0 d)
    = sendPay A B c i := by
  rw [Finset.sdiff_empty, duties_send, bigSep_singleton, payload_send]
theorem rest_recv : bigSep ((sys A B).duties (recvCell c i) 0 \ ∅) (fun d => (sys A B).payload (recvCell c i) 0 d)
    = recvPay A B c i := by
  rw [Finset.sdiff_empty, duties_recv, bigSep_singleton, payload_recv]

end Sched

/-! ## What a device owes; the levels -/

/-- What device `c` owes for exchange `i`: its credit, to the partner's receive cell. -/
def owed (c : Dev nD) (i : Fin 9) : CellTallies nD τ sig Unit := tallyAt (recvCell (pt (dir i) c) i) () (amt i)
/-- What device `c` owes when its last `k` sends are still to come. -/
def Os (c : Dev nD) : ℕ → CellTallies nD τ sig Unit
  | 0 => 0
  | k + 1 => Os c k + owed c (Fin.ofNat 9 (8 - k))
/-- What device `c` owes at launch: all nine sends, and a unit to each partner's barrier. -/
def O₂ (c : Dev nD) : CellTallies nD τ sig Unit := Os c 9 + tallyAt (barCell (pt 2 c)) () 1
def O₁ (c : Dev nD) : CellTallies nD τ sig Unit := O₂ c + tallyAt (barCell (pt 1 c)) () 1
def O₀ (c : Dev nD) : CellTallies nD τ sig Unit := O₁ c + tallyAt (barCell (pt 0 c)) () 1

def L (g : GSem nD τ sig) : Finset Unit := if g.1.2 = .tc then {()} else ∅
/-- Barrier cells are at level 1, the receive cells of step `s` at `2 + s`, all others at 0. -/
def lv (g : GSem nD τ sig) (_ : Unit) : ℕ := match g.2 with
  | .reg _ => 1
  | .dma q => if IsRecv q then 2 + stp (ixOf q) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (i : Fin 9) (u : Unit) : lv (recvCell c i) u = 2 + stp i := by
  dsimp only [lv]; rw [if_pos (recv_isRecv i), ixOf_recv]
theorem lv_bar (c : Dev nD) (u : Unit) : lv (barCell c) u = 1 := rfl
theorem lv_low (c : Dev nD) (q : DmaSem sig) (hq : ¬ IsRecv q) (u : Unit) : lv ((c : Thread nD τ), .dma q) u = 0 := if_neg hq

/-- Where something is owed with `k` sends to come, it is a receive cell of one of the last `k` exchanges. -/
theorem Os_pos {c : Dev nD} {g : GSem nD τ sig} {u : Unit} : ∀ k, k ≤ 9 → 0 < Os c k g u →
    ∃ i : Fin 9, 9 ≤ i.val + k ∧ g = recvCell (pt (dir i) c) i
  | 0, _, h => absurd h (Nat.lt_irrefl 0)
  | k + 1, hk, h => by
    unfold Os owed at h
    rw [Pi.add_apply, Finsupp.add_apply, tallyAt_apply] at h
    by_cases hg : g = recvCell (pt (dir (Fin.ofNat 9 (8 - k))) c) (Fin.ofNat 9 (8 - k)) ∧ u = ()
    · refine ⟨_, ?_, hg.1⟩
      show 9 ≤ (8 - k) % 9 + (k + 1)
      omega
    · rw [if_neg hg, Nat.add_zero] at h
      obtain ⟨i, hi, hgi⟩ := Os_pos k (by omega) h
      exact ⟨i, by omega, hgi⟩

theorem O₀_pos {c : Dev nD} {g : GSem nD τ sig} {u : Unit} (h : 0 < O₀ c g u) :
    (∃ i, g = recvCell (pt (dir i) c) i) ∨ ∃ k, g = barCell (pt k c) := by
  unfold O₀ O₁ O₂ at h
  have hT := Os_pos (c := c) (g := g) (u := u) 9 le_rfl
  generalize Os c 9 = T at h hT
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  obtain ⟨i, _, hi⟩ := hT h
  exact hn.1 i hi

omit [FloatOps F] in
/-- A wait is admissible when everything owed lies on cells above the one waited on. -/
theorem mayWait_of (c : Dev nD) (sm : SemLoc sig) (O : CellTallies nD τ sig Unit) (b : ℕ)
    (hb : lv ((c : Thread nD τ), sm) () ≤ b) (hO : ∀ g u, 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hb)
    (fun g u hg => (hO g u hg).2)

omit [FloatOps F] in
/-- The staging waits. -/
theorem mayWait_stage (c : Dev nD) (q : DmaSem sig) (hq : ¬ IsRecv q) (O : CellTallies nD τ sig Unit) (hO : O = O₀ c ∨ O = 0) :
    (levAts L lv : sProp 𝕄) ⊢ MayWait (c : Thread nD τ) (.dma q) () O := by
  refine mayWait_of c _ O 0 (le_of_eq (lv_low c q hq ())) fun g u hg => ?_
  rcases hO with rfl | rfl
  · rcases O₀_pos hg with ⟨i, rfl⟩ | ⟨k, rfl⟩
    · exact ⟨rfl, by rw [lv_recv]; omega⟩
    · exact ⟨rfl, by rw [lv_bar]; decide⟩
  · exact absurd hg (Nat.lt_irrefl 0)

omit [FloatOps F] in
/-- At its barrier wait a device owes receive cells only. -/
theorem mayWait_bar (c : Dev nD) : (levAts L lv : sProp 𝕄) ⊢ MayWait (c : Thread nD τ) (.reg barS) () (Os c 9) :=
  mayWait_of c _ _ 1 (le_of_eq (lv_bar c ())) fun g u hg => by
    obtain ⟨i, -, rfl⟩ := Os_pos 9 le_rfl hg
    exact ⟨rfl, by rw [lv_recv]; omega⟩

omit [FloatOps F] in
/-- A send cell may be waited on whatever sends are still to come. -/
theorem mayWait_send (c : Dev nD) (i : Fin 9) (k : ℕ) (hk : k ≤ 9) :
    (levAts L lv : sProp 𝕄) ⊢ MayWait (c : Thread nD τ) (.dma (sendS i)) () (Os c k) :=
  mayWait_of c _ _ 0 (le_of_eq (lv_low c _ (send_not_recv i) ())) fun g u hg => by
    obtain ⟨j, -, rfl⟩ := Os_pos k hk hg
    exact ⟨rfl, by rw [lv_recv]; omega⟩

omit [FloatOps F] in
/-- A receive cell may be waited on when the sends to come are of later steps. -/
theorem mayWait_recv (c : Dev nD) (i : Fin 9) (k : ℕ) (hk : k + i.val ≤ 6 ∨ k = 0) :
    (levAts L lv : sProp 𝕄) ⊢ MayWait (c : Thread nD τ) (.dma (recvS i)) () (Os c k) :=
  mayWait_of c _ _ (2 + stp i) (le_of_eq (lv_recv c i ())) fun g u hg => by
    rcases hk with hk | rfl
    · obtain ⟨j, hj, rfl⟩ := Os_pos k (by omega) hg
      exact ⟨rfl, by rw [lv_recv]; unfold stp; omega⟩
    · exact absurd hg (Nat.lt_irrefl 0)

end Cert.KernelIdeal.Run

end
-- ==== Proof.KernelIdeal.Views.lean ====
/-
The views the kernel takes of its two scratch buffers, as sets of elements: a row block of the accumulator and the
slot of an exchange; and what a load, a store and a landing transfer through them do to contents.
-/
module

public import proofs.«01_k».proof.Proof.KernelIdeal.Schedule
public import Idealize.ShloMosaic.Lib.ValueLayout

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx

variable {F : FTy → Type} [FloatOps F]

/-- Rows `o` to `o + h` of a square array lie in it; -/
abbrev InRows (o h : ℕ) : Prop := ∀ a, (![o, 0] : Fin 2 → ℕ) a + (![h, 512] : Fin 2 → ℕ) a ≤ S512x512.size a
/-- and those rows of layer `s` in the receive buffer. -/
abbrev InSlot (s o h : ℕ) : Prop := ∀ a, (![s, o, 0] : Fin 3 → ℕ) a + (![1, h, 512] : Fin 3 → ℕ) a ≤ S3x512x512.size a

abbrev accM : Memref sig .tc .vmem S512x512 .bf16 := Memref.whole cc0_scratch0
abbrev recvM : Memref sig .tc .vmem S3x512x512 .bf16 := Memref.whole cc0_scratch1
abbrev outM : Memref sig .tc .vmem S512x512 .f32 := Memref.whole cc0_stg2_0

abbrev rowsR (o h : ℕ) (ib : InRows o h) : Rect S512x512 := Rect.unit (s := S512x512) ![o, 0] ![h, 512] ib
abbrev slotR (s o h : ℕ) (ib : InSlot s o h) : Rect S3x512x512 := Rect.unit (s := S3x512x512) ![s, o, 0] ![1, h, 512] ib

abbrev accV (o h : ℕ) (ib : InRows o h) : Memref sig .tc .vmem ⟨2, ![h, 512]⟩ .bf16 := accM.slice (rowsR o h ib) (fun _ => rfl)
abbrev slotV (s o h : ℕ) (ib : InSlot s o h) (hq : (⟨3, ![1, h, 512]⟩ : Shape).Squeezes ⟨2, ![h, 512]⟩) :
    Memref sig .tc .vmem ⟨2, ![h, 512]⟩ .bf16 :=
  (recvM.slice (slotR s o h ib) (fun _ => rfl)).squeeze ⟨2, ![h, 512]⟩ hq

/-- A block's index as an index of the slot, its leading axis put back. -/
abbrev up {h : ℕ} (j : (⟨2, ![h, 512]⟩ : Shape).Idx) : (⟨3, ![1, h, 512]⟩ : Shape).Idx := ix3 (0 : Fin 1) (j 0) (j 1)

/-! ## Where an index of a block lies -/

theorem rows_emb0 (o h : ℕ) (ib) (j) : ((rowsR o h ib).emb j 0).val = o + (j 0).val := by
  rw [Rect.emb_apply]; show o + 1 * _ = _; rw [Nat.one_mul]
theorem rows_emb1 (o h : ℕ) (ib) (j) : ((rowsR o h ib).emb j 1).val = (j 1).val := by
  rw [Rect.emb_apply]; show 0 + 1 * _ = _; rw [Nat.one_mul, Nat.zero_add]
theorem slot_emb0 (s o h : ℕ) (ib) (j) : ((slotR s o h ib).emb j 0).val = s + (j 0).val := by
  rw [Rect.emb_apply]; show s + 1 * _ = _; rw [Nat.one_mul]
theorem slot_emb1 (s o h : ℕ) (ib) (j) : ((slotR s o h ib).emb j 1).val = o + (j 1).val := by
  rw [Rect.emb_apply]; show o + 1 * _ = _; rw [Nat.one_mul]
theorem slot_emb2 (s o h : ℕ) (ib) (j) : ((slotR s o h ib).emb j 2).val = (j 2).val := by
  rw [Rect.emb_apply]; show 0 + 1 * _ = _; rw [Nat.one_mul, Nat.zero_add]

theorem slotV_emb (s o h : ℕ) (ib) (hq) (j) : (slotV s o h ib hq).view.emb j = (slotR s o h ib).emb (up j) := by
  show (slotR s o h ib).emb (Shape.reshapeEquiv _ j) = _
  congr 1
  rw [eq_ix2 j]
  exact reshapeEquiv_ix2_1ab _ _ _

section Block
variable {p : Fin 3} {i : Fin 9} {s o h : ℕ}

theorem rb_rows (ho : o = off p) (hh : h = ht p) (ib) (j) : rb ((rowsR o h ib).emb j 0).val = p := by
  refine (rb_eq_iff p _ ((rowsR o h ib).emb j 0).isLt).mpr ?_
  rw [rows_emb0, ← ho, ← hh]
  have := (j 0).isLt
  exact ⟨Nat.le_add_right _ _, Nat.add_lt_add_left this _⟩

theorem rows_set (ho : o = off p) (hh : h = ht p) (ib) : (rowsR o h ib).set = accSet p := by
  ext x
  rw [Rect.mem_set_unit, mem_accSet, rb_eq_iff _ _ (x 0).isLt, ← ho, ← hh]
  constructor
  · intro H; exact H 0
  · intro H a
    match a with
    | ⟨0, _⟩ => exact H
    | ⟨1, _⟩ => exact ⟨Nat.zero_le _, by show (x 1).val < 0 + 512; rw [Nat.zero_add]; exact (x 1).isLt⟩

theorem slot_set (hs : s = stp i) (ho : o = off (blk i)) (hh : h = ht (blk i)) (ib) : (slotR s o h ib).set = slotSet i := by
  ext x
  rw [Rect.mem_set_unit, mem_slotSet, rb_eq_iff _ _ (x 1).isLt, ← ho, ← hh, ← hs]
  constructor
  · intro H
    have h0 := H 0
    have h1 := H 1
    refine ⟨?_, h1⟩
    have ha : s ≤ (x 0).val ∧ (x 0).val < s + 1 := h0
    omega
  · intro H a
    match a with
    | ⟨0, _⟩ => exact ⟨le_of_eq H.1.symm, by show (x 0).val < s + 1; omega⟩
    | ⟨1, _⟩ => exact H.2
    | ⟨2, _⟩ => exact ⟨Nat.zero_le _, by show (x 2).val < 0 + 512; rw [Nat.zero_add]; exact (x 2).isLt⟩

theorem accV_set (ho : o = off p) (hh : h = ht p) (ib) : (accV o h ib).view.set = accSet p :=
  (View.set_slice_whole cc0_scratch0 (rowsR o h ib)).trans (rows_set ho hh ib)
theorem slotV_set (hs : s = stp i) (ho : o = off (blk i)) (hh : h = ht (blk i)) (ib) (hq) : (slotV s o h ib hq).view.set = slotSet i :=
  ((View.set_reshape _ _).trans (View.set_slice_whole cc0_scratch1 (slotR s o h ib))).trans (slot_set hs ho hh ib)

/-- Every element of a block is one of its rows'. -/
theorem rows_of_mem (ho : o = off p) (hh : h = ht p) (ib) (x : S512x512.Idx) (hx : x ∈ accSet p) : ∃ j, (rowsR o h ib).emb j = x := by
  rw [← rows_set ho hh ib, ← Rect.map_emb_univ] at hx
  obtain ⟨j, _, hj⟩ := Finset.mem_map.mp hx
  exact ⟨j, hj⟩
theorem slot_of_mem (hs : s = stp i) (ho : o = off (blk i)) (hh : h = ht (blk i)) (ib) (hq) (x : S3x512x512.Idx) (hx : x ∈ slotSet i) :
    ∃ j, (slotV s o h ib hq).view.emb j = x := by
  rw [← slotV_set hs ho hh ib hq] at hx
  obtain ⟨j, _, hj⟩ := Finset.mem_map.mp hx
  exact ⟨j, hj⟩

end Block

/-! ## Contents through the views -/

section Contents
variable (A : Dev nD → S512x256.Idx → Elt F .bf16) (B : Dev nD → S256x512.Idx → Elt F .bf16)
variable {i : Fin 9} {s o h : ℕ}

/-- The slot of exchange `i` holds, row by row, the partner's block after `stp i` steps. -/
theorem landed_slot (c : Dev nD) (hs : s = stp i) (ho : o = off (blk i)) (hh : h = ht (blk i)) (ib : InRows o h) (ib' : InSlot s o h) (j) :
    landed A B c ((slotR s o h ib').emb (up j)) = W A B (stp i) (pt (dir i) c) ((rowsR o h ib).emb j) := by
  have e0 : ((slotR s o h ib').emb (up j) 0).val = stp i := (slot_emb0 s o h ib' (up j)).trans hs
  have e1 : ((slotR s o h ib').emb (up j) 1) = (rowsR o h ib).emb j 0 :=
    Fin.ext ((slot_emb1 s o h ib' (up j)).trans (rows_emb0 o h ib j).symm)
  have e2 : ((slotR s o h ib').emb (up j) 2) = (rowsR o h ib).emb j 1 :=
    Fin.ext ((slot_emb2 s o h ib' (up j)).trans (rows_emb1 o h ib j).symm)
  show W A B ((slotR s o h ib').emb (up j) 0).val (pt (dirAt ((slotR s o h ib').emb (up j) 0).val (rb ((slotR s o h ib').emb (up j) 1).val)) c)
    (ix2 ((slotR s o h ib').emb (up j) 1) ((slotR s o h ib').emb (up j) 2)) = _
  rw [e0, e1, e2, rb_rows ho hh ib j]
  exact congrArg (W A B (stp i) (pt (dir i) c)) (eq_ix2 ((rowsR o h ib).emb j)).symm

/-- Adding the slot to the block is one step. -/
theorem W_step (c : Dev nD) (hs : s = stp i) (ho : o = off (blk i)) (hh : h = ht (blk i)) (ib : InRows o h) (ib' : InSlot s o h) (j) :
    W A B (stp i + 1) c ((rowsR o h ib).emb j)
      = FloatOps.addf (W A B (stp i) c ((rowsR o h ib).emb j)) (landed A B c ((slotR s o h ib').emb (up j))) := by
  rw [landed_slot A B c hs ho hh ib ib' j]
  show FloatOps.addf _ (W A B (stp i) (pt (dirAt (stp i) (rb ((rowsR o h ib).emb j 0).val)) c) _) = _
  rw [rb_rows ho hh ib j]
  rfl

/-- A block landing in the partner's slot is what that slot is to hold. -/
theorem write_landed (c : Dev nD) (hs : s = stp i) (ho : o = off (blk i)) (hh : h = ht (blk i)) (ib : InRows o h) (ib' : InSlot s o h) (hq)
    (f : S3x512x512.Idx → Elt F .bf16) (x : S3x512x512.Idx) (hx : x ∈ slotSet i) :
    (slotV s o h ib' hq).view.write (Elt F) f ((accV o h ib).view.read (Elt F) (W A B (stp i) c)) Finset.univ x
      = landed A B (pt (dir i) c) x := by
  obtain ⟨j, rfl⟩ := slot_of_mem hs ho hh ib' hq x hx
  rw [View.write_emb_of_mem _ _ (Finset.mem_univ j)]
  rw [slotV_emb, landed_slot A B (pt (dir i) c) hs ho hh ib ib' j, pt_pt]
  rfl

/-- A store of a whole block leaves what it stored. -/
theorem write_rows {p : Fin 3} (ho : o = off p) (hh : h = ht p) (ib : InRows o h) (f g : S512x512.Idx → Elt F .bf16)
    (w : (⟨2, ![h, 512]⟩ : Shape).Idx → Elt F .bf16) (hw : ∀ j, w j = g ((rowsR o h ib).emb j)) (x : S512x512.Idx) (hx : x ∈ accSet p) :
    (accM.access (rowsR o h ib) : View sig .tc _ _ _).write (Elt F) f w Finset.univ x = g x := by
  obtain ⟨j, rfl⟩ := rows_of_mem ho hh ib x hx
  exact (View.write_emb_of_mem (v := (accM.access (rowsR o h ib) : View sig .tc _ _ _)) f w (Finset.mem_univ j)).trans (hw j)

/-- The same of the result's staging buffer: inside the block what was stored, -/
theorem write_out_mem {p : Fin 3} (ho : o = off p) (hh : h = ht p) (ib : InRows o h) (f g : S512x512.Idx → Elt F .f32)
    (w : (⟨2, ![h, 512]⟩ : Shape).Idx → Elt F .f32) (hw : ∀ j, w j = g ((rowsR o h ib).emb j)) (x : S512x512.Idx) (hx : x ∈ accSet p) :
    (outM.access (rowsR o h ib) : View sig .tc _ _ _).write (Elt F) f w Finset.univ x = g x := by
  obtain ⟨j, rfl⟩ := rows_of_mem ho hh ib x hx
  exact (View.write_emb_of_mem (v := (outM.access (rowsR o h ib) : View sig .tc _ _ _)) f w (Finset.mem_univ j)).trans (hw j)
/-- outside it what was there. -/
theorem write_out_not_mem {p : Fin 3} (ho : o = off p) (hh : h = ht p) (ib : InRows o h) (f : S512x512.Idx → Elt F .f32)
    (w : (⟨2, ![h, 512]⟩ : Shape).Idx → Elt F .f32) (x : S512x512.Idx) (hx : x ∉ accSet p) :
    (outM.access (rowsR o h ib) : View sig .tc _ _ _).write (Elt F) f w Finset.univ x = f x :=
  View.write_of_not_mem (v := (outM.access (rowsR o h ib) : View sig .tc _ _ _)) f w Finset.univ (by
    rw [View.setOn_univ]
    exact fun hx' => hx (by rw [← rows_set ho hh ib, ← View.set_slice_whole cc0_stg2_0 (rowsR o h ib)]; exact hx'))

end Contents

end Cert.KernelIdeal.Run

end
-- ==== Proof.KernelIdeal.Steps.lean ====
/-
The steps of the all-reduce, each proved once for an arbitrary exchange: sending a row block, the two waits of an
exchange, loading and storing a row block.
-/
module

public import proofs.«01_k».proof.Proof.KernelIdeal.Views

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx

variable {F : FTy → Type} [FloatOps F]

local notation "𝕄" => MT nD τ sig Unit (Elt F) ℕ UU ℕ

abbrev 𝒱₀ : Variants := Variants.none

/-- The cells of a device: its barrier, its nine send cells, its nine receive cells. -/
abbrev Cix : Type := Unit ⊕ (Fin 9 ⊕ Fin 9)
abbrev csem : Cix → SemLoc sig
  | .inl _ => .reg barS
  | .inr (.inl i) => .dma (sendS i)
  | .inr (.inr i) => .dma (recvS i)
abbrev kcell (ck : Dev nD × Cix) : GSem nD τ sig := ((ck.1 : Thread nD τ), csem ck.2)

/-- What a device owes, whatever it has waited for. -/
def owesE (c : Dev nD) (O : CellTallies nD τ sig Unit) : sProp 𝕄 := iprop(∃ Wt, owes (c : Thread nD τ) O Wt)

section Steps
variable (A : Dev nD → S512x256.Idx → Elt F .bf16) (B : Dev nD → S256x512.Idx → Elt F .bf16)

/-! ## What is known throughout -/

/-- Every cell's invariant, under the names `K`, and that every cell is at its first round. -/
def records (K : Dev nD × Cix → ℕ) : sProp 𝕄 :=
  iprop((bigSep Finset.univ fun ck : Dev nD × Cix => cellInv ER (sys A B) (K ck) (kcell ck))
    ∗ bigSep Finset.univ fun ck : Dev nD × Cix => reached ER (kcell ck) 0)
/-- That, and the levels of all cells. -/
def env (K : Dev nD × Cix → ℕ) : sProp 𝕄 := iprop(records A B K ∗ levAts L lv)

instance records_persistent (K : Dev nD × Cix → ℕ) : BI.Persistent (records A B K) := by unfold records; infer_instance
instance env_persistent (K : Dev nD × Cix → ℕ) : BI.Persistent (env A B K) := by unfold env; infer_instance

variable (K : Dev nD × Cix → ℕ)

theorem env_inv (ck : Dev nD × Cix) : env A B K ⊢ cellInv ER (sys A B) (K ck) (kcell ck) := by
  unfold env records
  iintro ⟨⟨H, -⟩, -⟩
  iapply (show (bigSep Finset.univ fun ck : Dev nD × Cix => (cellInv ER (sys A B) (K ck) (kcell ck) : sProp 𝕄)) ⊢ _ from
    bigSep_elim (Finset.mem_univ ck))
  iexact H
theorem env_reached (ck : Dev nD × Cix) : env A B K ⊢ reached ER (kcell ck) 0 := by
  unfold env records
  iintro ⟨⟨-, H⟩, -⟩
  iapply (show (bigSep Finset.univ fun ck : Dev nD × Cix => (reached ER (kcell ck) 0 : sProp 𝕄)) ⊢ _ from
    bigSep_elim (Finset.mem_univ ck))
  iexact H
theorem env_lev : env A B K ⊢ levAts L lv := by
  unfold env
  iintro ⟨-, H⟩
  iexact H

/-! ## The states of an exchange -/

/-- Not yet sent: the partner's slot, the right to pay for the transfer, and the device's places at its own two cells. -/
def ready (c : Dev nD) (i : Fin 9) : sProp 𝕄 :=
  iprop(slotAny (pt (dir i) c) i ∗ (dutyTok ER (sendCell c i) 0 0 ∗ dutyTok ER (recvCell (pt (dir i) c) i) 0 0)
    ∗ (atPos ER (sendCell c i) 0 ∅ 0 ∗ atPos ER (recvCell c i) 0 ∅ 0 ∗ cred (tallyAt (recvCell c i) () (amt i))))
/-- Sent, not yet waited for. -/
def flight (c : Dev nD) (i : Fin 9) : sProp 𝕄 :=
  iprop(cred (tallyAt (sendCell c i) () (amt i))
    ∗ (atPos ER (sendCell c i) 0 ∅ 0 ∗ atPos ER (recvCell c i) 0 ∅ 0 ∗ cred (tallyAt (recvCell c i) () (amt i))))
/-- Complete: the own slot filled, both semaphores back at zero. -/
def done (c : Dev nD) (i : Fin 9) : sProp 𝕄 :=
  iprop(slotPts c i (landed A B c) ∗ semVal (sendCell c i) 0 ∗ semVal (recvCell c i) 0)

variable (c : Dev nD) (i : Fin 9) {s o h : ℕ}

/-! ## Single operations -/

/-- Sending a row block to the partner of exchange `i`. -/
theorem wp_send_block (n : Dev nD) (hn : n = pt (dir i) c) (hs : s = stp i) (ho : o = off (blk i)) (hh : h = ht (blk i))
    {qS qR : DmaSem sig} (hqS : qS = sendS i) (hqR : qR = recvS i) (k : ℕ) (hk : i.val + k = 8)
    {ib : InRows o h} {ib' : InSlot s o h} {hq}
    {hsc : (slotV s o h ib' hq : Memref sig (Dev.tc n : Thread nD τ).2.kind .vmem _ .bf16).view.ref.isScScratch = false}
    {hsrc : (accV o h ib).view.WordExact} {hdst : (slotV s o h ib' hq).view.WordExact}
    {hsem : DmaTarget.Typed .vmem (.dma qR) (.remote (Dev.tc n : Thread nD τ) (slotV s o h ib' hq) (.dma qS) hsc)}
    {α : Type} {Q : α → sProp 𝕄} {kt : PUnit → Prog (TpuEff nD τ sig (Elt F) Λ₀ .tc) α} :
    iprop(env A B K ∗ accPts c (blk i) (W A B (stp i) c) ∗ ready c i ∗ owesE c (Os c (k + 1)))
      ⊢ iprop(((flight c i ∗ owesE c (Os c k)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (accV o h ib) (.remote (Dev.tc n : Thread nD τ) (slotV s o h ib' hq) (.dma qS) hsc) (.dma qR) hsrc hdst hsem) kt) Q) := by
  subst hn hqS hqR
  have hO : Os c (k + 1) = Os c k + tallyAt (recvCell (pt (dir i) c) i) () (amt i) := by
    show Os c k + owed c (Fin.ofNat 9 (8 - k)) = _
    rw [show (Fin.ofNat 9 (8 - k)) = i from Fin.ext (by show (8 - k) % 9 = i.val; omega)]
    rfl
  unfold ready owesE slotAny
  iintro ⟨#HE, Hacc, ⟨⟨%f, Hslot⟩, ⟨HtS, HtR⟩, Hpos⟩, ⟨%Wt, HO⟩⟩ Hk
  ihave #HIs := (env_inv A B K (c, .inr (.inl i))) $$ HE
  ihave #HIr := (env_inv A B K (pt (dir i) c, .inr (.inr i))) $$ HE
  ihave #HRs := (env_reached A B K (c, .inr (.inl i))) $$ HE
  ihave #HRr := (env_reached A B K (pt (dir i) c, .inr (.inr i))) $$ HE
  iapply (Rounds.wp_send_pointsTo 𝒱₀ ER (sys A B) (c : Thread nD τ) none (κ₁ := K (c, .inr (.inl i))) (κ₂ := K (pt (dir i) c, .inr (.inr i)))
    (c' := (pt (dir i) c : Thread nD τ)) (src := accV o h ib) (dst := slotV s o h ib' hq) (q := fullShare) (fs := W A B (stp i) c)
    (r₁ := 0) (r₂ := 0) (d₁ := 0) (d₂ := 0) (fd := f)
    (by rw [duties_send]; exact Finset.mem_singleton_self _) (by rw [duties_recv]; exact Finset.mem_singleton_self _)
    () () (amt i) (by subst hh; rfl) (amount_send A B c i 0) (amount_recv A B (pt (dir i) c) i 0) (Os c k) hO (W := Wt)
    (by rw [payload_send, accV_set ho hh ib]; exact BI.Entails.refl _)
    (by
      rw [payload_recv, slotV_set hs ho hh ib' hq]
      exact Entails.of_eq (pointsTo_congr fun x hx => write_landed A B c hs ho hh ib ib' hq f x hx))) $$ [Hacc Hslot HO HtS HtR]
  · isplitr; · iexact HIs
    isplitr; · iexact HIr
    isplitl [Hacc]; · rw [accV_set ho hh ib]; unfold accPts; iexact Hacc
    isplitl [Hslot]; · rw [slotV_set hs ho hh ib' hq]; unfold slotPts; iexact Hslot
    isplitl [HO]; · iexact HO
    isplitl [HtS]; · iexact HtS
    isplitr; · iexact HRs
    isplitl [HtR]; · iexact HtR
    iexact HRr
  iintro ⟨Hc, HO⟩
  iapply Hk
  unfold flight
  isplitl [Hc Hpos]
  · isplitl [Hc]; · iexact Hc
    iexact Hpos
  iexists Wt; iexact HO

/-- Waiting for a send: the block comes back, and the send semaphore. -/
theorem wp_wait_send {qS : DmaSem sig} (hqS : qS = sendS i) (k : ℕ) (hk : k ≤ 9)
    {sh : Shape} {e : EltTy} {src : Memref sig .tc .vmem sh e} {dst : Memref sig .tc .vmem sh e} {hsrc : src.view.WordExact} {hdst : dst.view.WordExact} (hcr : dst.view.dmaCredit = amt i)
    {α : Type} {Q : α → sProp 𝕄} {kt : PUnit → Prog (TpuEff nD τ sig (Elt F) Λ₀ .tc) α} :
    iprop(env A B K ∗ cred (tallyAt (sendCell c i) () (amt i)) ∗ atPos ER (sendCell c i) 0 ∅ 0 ∗ owesE c (Os c k))
      ⊢ iprop(((accPts c (blk i) (W A B (stp i) c) ∗ semVal (sendCell c i) 0 ∗ owesE c (Os c k))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qS src dst hsrc hdst) kt) Q) := by
  subst hqS
  unfold owesE
  iintro ⟨#HE, Hc, Hat, ⟨%Wt, HO⟩⟩ Hk
  ihave #HI := (env_inv A B K (c, .inr (.inl i))) $$ HE
  ihave #Hlev := (env_lev A B K) $$ HE
  iapply (Rounds.wp_wait_rest_token 𝒱₀ ER (sys A B) (c : Thread nD τ) none (κ := K (c, .inr (.inl i)))
      (wpE_waitDma2_eq 𝒱₀ (c : Thread nD τ) none Set.univ) (Set.mem_univ _) () (O := Os c k) (W := Wt) (R := 0) (m := 0) (T := ∅)
      (by rw [Nat.zero_add, expect_send, hcr])) $$ [Hc HO Hat]
  · isplitr; · iexact HI
    isplitl [Hc]; · rw [hcr]; iexact Hc
    isplitl [HO]; · iexact HO
    isplitr; · iapply (mayWait_send c i k hk); iexact Hlev
    iexact Hat
  iintro ⟨HO, Hat, -, Hpay⟩
  ihave Hacc := (Entails.of_eq (rest_send A B c i)) $$ Hpay
  imod (Rounds.cell_close ER (sys A B) (Set.mem_univ (K (c, .inr (.inl i)))) (fun h => h) (R := 0 + 1) (duties_later A B (sendCell c i))) $$ [Hat] with Hz
  · isplitr; · iexact HI
    iexact Hat
  iapply Hk
  isplitl [Hacc]; · unfold sendPay; iexact Hacc
  isplitl [Hz]; · iexact Hz
  iexists _; iexact HO

/-- Waiting for a receive: the slot comes filled, and the receive semaphore. -/
theorem wp_wait_recv {qR : DmaSem sig} (hqR : qR = recvS i) (k : ℕ) (hk : k + i.val ≤ 6 ∨ k = 0)
    {sh : Shape} {e : EltTy} {src : Memref sig .tc .vmem sh e} {dst : Memref sig .tc .vmem sh e} {hsrc : src.view.WordExact} {hdst : dst.view.WordExact} (hcr : dst.view.dmaCredit = amt i)
    {α : Type} {Q : α → sProp 𝕄} {kt : PUnit → Prog (TpuEff nD τ sig (Elt F) Λ₀ .tc) α} :
    iprop(env A B K ∗ cred (tallyAt (recvCell c i) () (amt i)) ∗ atPos ER (recvCell c i) 0 ∅ 0 ∗ owesE c (Os c k))
      ⊢ iprop(((slotPts c i (landed A B c) ∗ semVal (recvCell c i) 0 ∗ owesE c (Os c k))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 qR src dst hsrc hdst) kt) Q) := by
  subst hqR
  unfold owesE
  iintro ⟨#HE, Hc, Hat, ⟨%Wt, HO⟩⟩ Hk
  ihave #HI := (env_inv A B K (c, .inr (.inr i))) $$ HE
  ihave #Hlev := (env_lev A B K) $$ HE
  iapply (Rounds.wp_wait_rest_token 𝒱₀ ER (sys A B) (c : Thread nD τ) none (κ := K (c, .inr (.inr i)))
      (wpE_waitDma2_eq 𝒱₀ (c : Thread nD τ) none Set.univ) (Set.mem_univ _) () (O := Os c k) (W := Wt) (R := 0) (m := 0) (T := ∅)
      (by rw [Nat.zero_add, expect_recv, hcr])) $$ [Hc HO Hat]
  · isplitr; · iexact HI
    isplitl [Hc]; · rw [hcr]; iexact Hc
    isplitl [HO]; · iexact HO
    isplitr; · iapply (mayWait_recv c i k hk); iexact Hlev
    iexact Hat
  iintro ⟨HO, Hat, -, Hpay⟩
  ihave Hs := (Entails.of_eq (rest_recv A B c i)) $$ Hpay
  imod (Rounds.cell_close ER (sys A B) (Set.mem_univ (K (c, .inr (.inr i)))) (fun h => h) (R := 0 + 1) (duties_later A B (recvCell c i))) $$ [Hat] with Hz
  · isplitr; · iexact HI
    iexact Hat
  iapply Hk
  isplitl [Hs]; · unfold recvPay; iexact Hs
  isplitl [Hz]; · iexact Hz
  iexists _; iexact HO

/-- Loading a row block of the accumulator; -/
theorem wp_load_rows {p : Fin 3} (ho : o = off p) (hh : h = ht p) {ib : InRows o h} {hl} (f : S512x512.Idx → Elt F .bf16)
    {α : Type} {Q : α → sProp 𝕄} {kt : ((⟨2, ![h, 512]⟩ : Shape).Idx → Elt F .bf16) → Prog (TpuEff nD τ sig (Elt F) Λ₀ .tc) α} :
    accPts c p f
      ⊢ iprop((accPts c p f -∗ wp frame (wpE (defs₀ (F := F)) 𝒱₀ (c : Thread nD τ) none) Set.univ (kt fun j => f ((rowsR o h ib).emb j)) Q)
          -∗ wp frame (wpE (defs₀ (F := F)) 𝒱₀ (c : Thread nD τ) none) Set.univ (.op (.load accM (rowsR o h ib).toLoadRect hl) kt) Q) := by
  unfold accPts
  exact wp_load 𝒱₀ (c : Thread nD τ) none Set.univ (m := accM) (r := (rowsR o h ib).toLoadRect) (S := accSet p) (f := f) (by
    intro x hx
    have hx' : x ∈ (rowsR o h ib).set.map (View.whole cc0_scratch0).emb := hx
    rw [← View.set_slice, View.set_slice_whole, rows_set ho hh ib] at hx'
    exact hx')
/-- loading a slot; -/
theorem wp_load_slot (hs : s = stp i) (ho : o = off (blk i)) (hh : h = ht (blk i)) {ib : InSlot s o h} {hl} (f : S3x512x512.Idx → Elt F .bf16)
    {α : Type} {Q : α → sProp 𝕄} {kt : ((⟨3, ![1, h, 512]⟩ : Shape).Idx → Elt F .bf16) → Prog (TpuEff nD τ sig (Elt F) Λ₀ .tc) α} :
    slotPts c i f
      ⊢ iprop((slotPts c i f -∗ wp frame (wpE (defs₀ (F := F)) 𝒱₀ (c : Thread nD τ) none) Set.univ (kt fun j => f ((slotR s o h ib).emb j)) Q)
          -∗ wp frame (wpE (defs₀ (F := F)) 𝒱₀ (c : Thread nD τ) none) Set.univ (.op (.load recvM (slotR s o h ib).toLoadRect hl) kt) Q) := by
  unfold slotPts
  exact wp_load 𝒱₀ (c : Thread nD τ) none Set.univ (m := recvM) (r := (slotR s o h ib).toLoadRect) (S := slotSet i) (f := f) (by
    intro x hx
    have hx' : x ∈ (slotR s o h ib).set.map (View.whole cc0_scratch1).emb := hx
    rw [← View.set_slice, View.set_slice_whole, slot_set hs ho hh ib] at hx'
    exact hx')
/-- storing a row block. -/
theorem wp_store_rows {p : Fin 3} (ho : o = off p) (hh : h = ht p) {ib : InRows o h} {hst : (accM.access (rowsR o h ib)).Stores Finset.univ} {hv} (f g : S512x512.Idx → Elt F .bf16)
    {w : (⟨2, ![h, 512]⟩ : Shape).Idx → Elt F .bf16} (hw : ∀ j, w j = g ((rowsR o h ib).emb j))
    {α : Type} {Q : α → sProp 𝕄} {kt : PUnit → Prog (TpuEff nD τ sig (Elt F) Λ₀ .tc) α} :
    accPts c p f
      ⊢ iprop((accPts c p g -∗ wp frame (wpE (defs₀ (F := F)) 𝒱₀ (c : Thread nD τ) none) Set.univ (kt ⟨⟩) Q)
          -∗ wp frame (wpE (defs₀ (F := F)) 𝒱₀ (c : Thread nD τ) none) Set.univ (.op (.store accM (rowsR o h ib) w Finset.univ hst hv) kt) Q) := by
  unfold accPts
  rw [← pointsTo_congr (ℓ := (c : Thread nD τ).loc cc0_scratch0) (q := fullShare) (I := accSet p)
    (f := (accM.access (rowsR o h ib) : View sig .tc _ _ _).write (Elt F) f w Finset.univ) (g := g) (fun x hx => write_rows ho hh ib f g w hw x hx)]
  exact wp_store 𝒱₀ (c : Thread nD τ) none Set.univ (m := accM) (r := rowsR o h ib) (Mk := Finset.univ) (S := accSet p) (f := f) (by
    rw [View.setOn_univ]; intro x hx; rw [← accV_set ho hh ib]; exact hx)

end Steps

end Cert.KernelIdeal.Run

end
-- ==== Proof.KernelIdeal.Stretches.lean ====
/-
The stretches the kernel is made of, each proved once: the local product of a row block, a step's addition of a
received block with the block's next send, and the last step's addition into the result.
-/
module

public import proofs.«01_k».proof.Proof.KernelIdeal.Steps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx

variable {F : FTy → Type} [FloatOps F]

local notation "𝕄" => MT nD τ sig Unit (Elt F) ℕ UU ℕ

abbrev aM : Memref sig .tc .vmem S512x256 .bf16 := Memref.whole cc0_stg0_0
abbrev bM : Memref sig .tc .vmem S256x512 .bf16 := Memref.whole cc0_stg1_0

/-! ## What the stored vectors are, element by element -/

/-- The row of its block that a row of the block is. -/
theorem down_rows {o h : ℕ} (hh : 0 < h) (ib : InRows o h) (j) : down o h hh ((rowsR o h ib).emb j) = j := by
  rw [eq_ix2 j]
  unfold down
  have h0 := rows_emb0 o h ib (ix2 (j 0) (j 1))
  have h1 := rows_emb1 o h ib (ix2 (j 0) (j 1))
  have hj : (j 0).val < h := (j 0).isLt
  congr 1
  · refine Fin.ext ?_
    show (((rowsR o h ib).emb (ix2 (j 0) (j 1)) 0).val - o) % h = (j 0).val
    rw [h0]
    show (o + (j 0).val - o) % h = (j 0).val
    rw [Nat.add_sub_cancel_left, Nat.mod_eq_of_lt hj]
  · exact Fin.ext h1

/-- Each block of the local product, as the kernel computes it. -/
theorem prod_block0 (A : S512x256.Idx → Elt F .bf16) (B : S256x512.Idx → Elt F .bf16) (ib : InRows 0 176) (j) :
    k0_pay3 B (rowsOf 0 176 inb_S512x256_S176x256_0_0 A) j = prod A B ((rowsR 0 176 ib).emb j) := by
  have hr : rb ((rowsR 0 176 ib).emb j 0).val = 0 := rb_rows (p := 0) rfl rfl ib j
  unfold prod
  rw [hr]
  exact congrArg _ (down_rows _ ib j).symm
theorem prod_block1 (A : S512x256.Idx → Elt F .bf16) (B : S256x512.Idx → Elt F .bf16) (ib : InRows 176 176) (j) :
    k0_pay4 (k0_pay2 B) (rowsOf 176 176 inb_S512x256_S176x256_176_0 A) j = prod A B ((rowsR 176 176 ib).emb j) := by
  have hr : rb ((rowsR 176 176 ib).emb j 0).val = 1 := rb_rows (p := 1) rfl rfl ib j
  unfold prod
  rw [hr]
  exact congrArg _ (down_rows _ ib j).symm
theorem prod_block2 (A : S512x256.Idx → Elt F .bf16) (B : S256x512.Idx → Elt F .bf16) (ib : InRows 352 160) (j) :
    k0_pay6 (k0_pay5 (k0_pay2 B) (rowsOf 352 160 inb_S512x256_S160x256_352_0 A)) j = prod A B ((rowsR 352 160 ib).emb j) := by
  have hr : rb ((rowsR 352 160 ib).emb j 0).val = 2 := rb_rows (p := 2) rfl rfl ib j
  unfold prod
  rw [hr]
  exact congrArg _ (down_rows _ ib j).symm

/-- A slot without its leading unit axis, element by element. -/
theorem drop_apply {h : ℕ} (w : FVec F ⟨3, ![1, h, 512]⟩ .bf16) (hq) (j) : shapeCast ⟨2, ![h, 512]⟩ w hq j = w (up j) :=
  (congrArg (shapeCast ⟨2, ![h, 512]⟩ w hq) (eq_ix2 j)).trans (shapeCast_1ab_ab_apply w hq (j 0) (j 1))

/-- The sum of a block and a slot, element by element. -/
theorem sum_apply {h : ℕ} (v : FVec F ⟨2, ![h, 512]⟩ .bf16) (w : FVec F ⟨3, ![1, h, 512]⟩ .bf16) (hq hc) (j) :
    shapeCast ⟨2, ![h, 512]⟩ (addf v (shapeCast ⟨2, ![h, 512]⟩ w hq)) hc j = FloatOps.addf (v j) (w (up j)) := by
  rw [shapeCast_self]
  exact congrArg (FloatOps.addf (v j)) (drop_apply w hq j)
/-- The widened sum. -/
theorem wide_apply {h : ℕ} (v : FVec F ⟨2, ![h, 512]⟩ .bf16) (w : FVec F ⟨3, ![1, h, 512]⟩ .bf16) (hq) (j) :
    extf .f32 (addf v (shapeCast ⟨2, ![h, 512]⟩ w hq)) bitsLt_bf16_f32 j = FloatOps.extf .f32 bitsLt_bf16_f32 (FloatOps.addf (v j) (w (up j))) := by
  exact congrArg (fun y => FloatOps.extf .f32 bitsLt_bf16_f32 (FloatOps.addf (v j) y)) (drop_apply w hq j)

section Stretches
variable (A : Dev nD → S512x256.Idx → Elt F .bf16) (B : Dev nD → S256x512.Idx → Elt F .bf16) (K : Dev nD × Cix → ℕ)
variable (c : Dev nD) (i : Fin 9) {s o h : ℕ}

/-- The left operand's staging buffer. -/
def aPts (c : Dev nD) : sProp 𝕄 := ((c : Thread nD τ).loc cc0_stg0_0) ↦{fullShare} A c
/-- The result's staging buffer, right in its first `n` rows. -/
def outSt (c : Dev nD) (n : ℕ) : sProp 𝕄 :=
  iprop(∃ f : S512x512.Idx → Elt F .f32, ⌜∀ x, (x 0).val < n → f x = outAt A B c x⌝ ∗ (((c : Thread nD τ).loc cc0_stg2_0) ↦{fullShare} f))

/-- The local product of a row block. -/
theorem wp_product {p : Fin 3} (ho : o = off p) (hh : h = ht p) {ia} {ib : InRows o h} {hl₁ hl₂}
    {pay : ((⟨2, ![h, 256]⟩ : Shape).Idx → Elt F .bf16) → ((⟨2, ![h, 512]⟩ : Shape).Idx → Elt F .bf16)}
    (hpay : ∀ j, pay (rowsOf o h ia (A c)) j = prod (A c) (B c) ((rowsR o h ib).emb j))
    {hst : (accM.access (rowsR o h ib)).Stores Finset.univ} {hv}
    {α : Type} {Q : α → sProp 𝕄} {kt : PUnit → Prog (TpuEff nD τ sig (Elt F) Λ₀ .tc) α} :
    iprop(aPts A c ∗ (∃ f, accPts c p f))
      ⊢ iprop(((aPts A c ∗ accPts c p (W A B 0 c)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.load aM (Rect.unit (s := S512x256) ![o, 0] ![h, 256] ia).toLoadRect hl₁) fun v =>
                .op (.load accM (rowsR o h ib).toLoadRect hl₂) fun _ =>
                .op (.store accM (rowsR o h ib) (pay v) Finset.univ hst hv) kt) Q) := by
  unfold aPts
  iintro ⟨Ha, ⟨%f, Hacc⟩⟩ Hk
  iapply (wp_load 𝒱₀ (c : Thread nD τ) none Set.univ (m := aM) (Finset.subset_univ _)) $$ Ha
  iintro Ha
  iapply (wp_load_rows c ho hh f) $$ Hacc
  iintro Hacc
  iapply (wp_store_rows c ho hh f (W A B 0 c) (w := pay (rowsOf o h ia (A c))) hpay) $$ Hacc
  iintro Hacc
  iapply Hk
  isplitl [Ha]; · iexact Ha
  iexact Hacc

theorem blk_next {i j : Fin 9} (hij : j.val = i.val + 3) : blk j = blk i := Fin.ext (by unfold blk; simp only; omega)
theorem stp_next {i j : Fin 9} (hij : j.val = i.val + 3) : stp j = stp i + 1 := by unfold stp; omega

/-- The two waits of exchange `i`. -/
theorem wp_waits {qS qR : DmaSem sig} (hqS : qS = sendS i) (hqR : qR = recvS i) (k : ℕ) (hk : k + i.val ≤ 6 ∨ k = 0) (hh : h = ht (blk i))
    {ib : InRows o h} {ib' : InSlot s o h} {hq} {h₁ h₂ h₃ h₄}
    {α : Type} {Q : α → sProp 𝕄} {kt : PUnit → Prog (TpuEff nD τ sig (Elt F) Λ₀ .tc) α} :
    iprop(env A B K ∗ flight c i ∗ owesE c (Os c k))
      ⊢ iprop(((accPts c (blk i) (W A B (stp i) c) ∗ done A B c i ∗ owesE c (Os c k))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 qS (slotV s o h ib' hq) (accV o h ib) h₁ h₂) fun _ =>
                .op (.waitDma2 qR (accV o h ib) (slotV s o h ib' hq) h₃ h₄) kt) Q) := by
  unfold flight
  iintro ⟨#HE, ⟨Hc, HatS, HatR, HcR⟩, HO⟩ Hk
  iapply (wp_wait_send A B K c i hqS k (by omega) (by subst hh; rfl)) $$ [Hc HatS HO]
  · isplitr; · iexact HE
    isplitl [Hc]; · iexact Hc
    isplitl [HatS] <;> iassumption
  iintro ⟨Hacc, HzS, HO⟩
  iapply (wp_wait_recv A B K c i hqR k hk (by subst hh; rfl)) $$ [HcR HatR HO]
  · isplitr; · iexact HE
    isplitl [HcR]; · iexact HcR
    isplitl [HatR] <;> iassumption
  iintro ⟨Hs, HzR, HO⟩
  iapply Hk
  unfold done
  isplitl [Hacc]; · iexact Hacc
  isplitl [Hs HzS HzR]
  · isplitl [Hs]; · iexact Hs
    isplitl [HzS] <;> iassumption
  iexact HO

/-- A step: wait for exchange `i`, add what came to the block, and send the block on in exchange `j` of the next step. -/
theorem wp_round (j : Fin 9) (hij : j.val = i.val + 3) (k : ℕ) (hk : j.val + k = 8) (n : Dev nD) (hn : n = pt (dir j) c) {s' : ℕ} (hs : s = stp i) (hs' : s' = stp j)
    (ho : o = off (blk i)) (hh : h = ht (blk i)) {qS qR qS' qR' : DmaSem sig} (hqS : qS = sendS i) (hqR : qR = recvS i)
    (hqS' : qS' = sendS j) (hqR' : qR' = recvS j)
    {ib : InRows o h} {ib' : InSlot s o h} {ib'' : InSlot s' o h} {hq hq'} {h₁ h₂ h₃ h₄ hl₁ hl₂ hl₃}
    {pay : ((⟨2, ![h, 512]⟩ : Shape).Idx → Elt F .bf16) → ((⟨3, ![1, h, 512]⟩ : Shape).Idx → Elt F .bf16) → ((⟨2, ![h, 512]⟩ : Shape).Idx → Elt F .bf16)}
    (hpay : ∀ v w x, pay v w x = FloatOps.addf (v x) (w (up x)))
    {hst : (accM.access (rowsR o h ib)).Stores Finset.univ} {hv}
    {hsc : (slotV s' o h ib'' hq' : Memref sig (Dev.tc n : Thread nD τ).2.kind .vmem _ .bf16).view.ref.isScScratch = false}
    {hsrc : (accV o h ib).view.WordExact} {hdst : (slotV s' o h ib'' hq').view.WordExact}
    {hsem : DmaTarget.Typed .vmem (.dma qR') (.remote (Dev.tc n : Thread nD τ) (slotV s' o h ib'' hq') (.dma qS') hsc)}
    {α : Type} {Q : α → sProp 𝕄} {kt : PUnit → Prog (TpuEff nD τ sig (Elt F) Λ₀ .tc) α} :
    iprop(env A B K ∗ flight c i ∗ ready c j ∗ owesE c (Os c (k + 1)))
      ⊢ iprop(((done A B c i ∗ flight c j ∗ owesE c (Os c k))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 qS (slotV s o h ib' hq) (accV o h ib) h₁ h₂) fun _ =>
                .op (.waitDma2 qR (accV o h ib) (slotV s o h ib' hq) h₃ h₄) fun _ =>
                .op (.load accM (rowsR o h ib).toLoadRect hl₁) fun v =>
                .op (.load recvM (slotR s o h ib').toLoadRect hl₂) fun w =>
                .op (.load accM (rowsR o h ib).toLoadRect hl₃) fun _ =>
                .op (.store accM (rowsR o h ib) (pay v w) Finset.univ hst hv) fun _ =>
                .op (.enqueueDma (accV o h ib) (.remote (Dev.tc n : Thread nD τ) (slotV s' o h ib'' hq') (.dma qS') hsc) (.dma qR') hsrc hdst hsem) kt) Q) := by
  iintro ⟨#HE, Hfl, Hrd, HO⟩ Hk
  iapply (wp_waits A B K c i hqS hqR (k + 1) (by omega) hh) $$ [Hfl HO]
  · isplitr; · iexact HE
    isplitl [Hfl] <;> iassumption
  unfold done
  iintro ⟨Hacc, ⟨Hs, HzS, HzR⟩, HO⟩
  iapply (wp_load_rows c ho hh (W A B (stp i) c)) $$ Hacc
  iintro Hacc
  iapply (wp_load_slot c i hs ho hh (landed A B c)) $$ Hs
  iintro Hs
  iapply (wp_load_rows c ho hh (W A B (stp i) c)) $$ Hacc
  iintro Hacc
  iapply (wp_store_rows c ho hh (W A B (stp i) c) (W A B (stp j) c)
    (fun x => (hpay _ _ x).trans (by rw [stp_next hij]; exact (W_step A B c hs ho hh ib ib' x).symm))) $$ Hacc
  iintro Hacc
  iapply (wp_send_block A B K c j n hn hs' (by rw [blk_next hij]; exact ho) (by rw [blk_next hij]; exact hh) hqS' hqR' k hk) $$ [Hacc Hrd HO]
  · isplitr; · iexact HE
    isplitl [Hacc]; · rw [blk_next hij]; iexact Hacc
    isplitl [Hrd] <;> iassumption
  iintro ⟨Hfl, HO⟩
  iapply Hk
  isplitl [Hs HzS HzR]
  · isplitl [Hs]; · iexact Hs
    isplitl [HzS] <;> iassumption
  isplitl [Hfl] <;> iassumption

/-- The last step: wait for exchange `i`, and put the sum of the block and of what came, widened, into the result. -/
theorem wp_final (hi : stp i = 2) (hs : s = stp i)
    (ho : o = off (blk i)) (hh : h = ht (blk i)) {qS qR : DmaSem sig} (hqS : qS = sendS i) (hqR : qR = recvS i)
    {ib : InRows o h} {ib' : InSlot s o h} {hq} {h₁ h₂ h₃ h₄ hl₁ hl₂ hl₃}
    {pay : ((⟨2, ![h, 512]⟩ : Shape).Idx → Elt F .bf16) → ((⟨3, ![1, h, 512]⟩ : Shape).Idx → Elt F .bf16) → ((⟨2, ![h, 512]⟩ : Shape).Idx → Elt F .f32)}
    (hpay : ∀ v w x, pay v w x = FloatOps.extf .f32 bitsLt_bf16_f32 (FloatOps.addf (v x) (w (up x))))
    {hst : (outM.access (rowsR o h ib)).Stores Finset.univ} {hv}
    {α : Type} {Q : α → sProp 𝕄} {kt : PUnit → Prog (TpuEff nD τ sig (Elt F) Λ₀ .tc) α} :
    iprop(env A B K ∗ flight c i ∗ outSt A B c o ∗ owesE c (Os c 0))
      ⊢ iprop(((done A B c i ∗ accPts c (blk i) (W A B 2 c) ∗ outSt A B c (o + h) ∗ owesE c (Os c 0))
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.waitDma2 qS (slotV s o h ib' hq) (accV o h ib) h₁ h₂) fun _ =>
                .op (.waitDma2 qR (accV o h ib) (slotV s o h ib' hq) h₃ h₄) fun _ =>
                .op (.load accM (rowsR o h ib).toLoadRect hl₁) fun v =>
                .op (.load recvM (slotR s o h ib').toLoadRect hl₂) fun w =>
                .op (.load outM (rowsR o h ib).toLoadRect hl₃) fun _ =>
                .op (.store outM (rowsR o h ib) (pay v w) Finset.univ hst hv) kt) Q) := by
  unfold outSt
  iintro ⟨#HE, Hfl, ⟨%f, %hf, Hout⟩, HO⟩ Hk
  iapply (wp_waits A B K c i hqS hqR 0 (Or.inr rfl) hh) $$ [Hfl HO]
  · isplitr; · iexact HE
    isplitl [Hfl] <;> iassumption
  unfold done
  iintro ⟨Hacc, ⟨Hs, HzS, HzR⟩, HO⟩
  iapply (wp_load_rows c ho hh (W A B (stp i) c)) $$ Hacc
  iintro Hacc
  iapply (wp_load_slot c i hs ho hh (landed A B c)) $$ Hs
  iintro Hs
  iapply (wp_load 𝒱₀ (c : Thread nD τ) none Set.univ (m := outM) (Finset.subset_univ _)) $$ Hout
  iintro Hout
  iapply (wp_store 𝒱₀ (c : Thread nD τ) none Set.univ (m := outM) (r := rowsR o h ib) (Mk := Finset.univ) (Finset.subset_univ _)) $$ Hout
  iintro Hout
  iapply Hk
  isplitl [Hs HzS HzR]
  · isplitl [Hs]; · iexact Hs
    isplitl [HzS] <;> iassumption
  isplitl [Hacc]; · rw [hi]; iexact Hacc
  isplitl [Hout]
  · iexists _
    isplitr
    rotate_left
    · iexact Hout
    · ipureintro
      intro x hx
      by_cases hb : x ∈ accSet (blk i)
      · refine write_out_mem ho hh ib f (outAt A B c) _ (fun y => (hpay _ _ y).trans ?_) x hb
        have h3 : stp i + 1 = 3 := by omega
        have hw := W_step A B c hs ho hh ib ib' y
        rw [h3] at hw
        exact congrArg _ hw.symm
      · refine (write_out_not_mem ho hh ib f _ x hb).trans (hf x ?_)
        rw [mem_accSet, rb_eq_iff _ _ (x 0).isLt, ← ho, ← hh] at hb
        omega
  iexact HO

end Stretches

end Cert.KernelIdeal.Run

end
-- ==== Proof.KernelIdeal.Body.lean ====
/-
The kernel's body at a symbolic device: the signals to the three partners, the local product, the wait for the three
partners, the nine exchanges, and the result.
-/
module

public import proofs.«01_k».proof.Proof.KernelIdeal.Stretches

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx

variable {F : FTy → Type} [FloatOps F]

local notation "𝕄" => MT nD τ sig Unit (Elt F) ℕ UU ℕ

/-! ## The devices the kernel addresses -/

theorem dev1_eq (c : Dev nD) : (⟨k0_dev1 c, k0_dev1_lt c⟩ : Dev nD) = pt 0 c := by revert c; decide +kernel
theorem dev2_eq (c : Dev nD) : (⟨k0_dev2 c, k0_dev2_lt c⟩ : Dev nD) = pt 1 c := by revert c; decide +kernel
theorem dev3_eq (c : Dev nD) : (⟨k0_dev3 c, k0_dev3_lt c⟩ : Dev nD) = pt 2 c := by revert c; decide +kernel
theorem dev4_eq (c : Dev nD) : (⟨k0_dev4 c, k0_dev4_lt c⟩ : Dev nD) = pt (dir 0) c := by revert c; decide +kernel
theorem dev5_eq (c : Dev nD) : (⟨k0_dev5 c, k0_dev5_lt c⟩ : Dev nD) = pt (dir 1) c := by revert c; decide +kernel
theorem dev6_eq (c : Dev nD) : (⟨k0_dev6 c, k0_dev6_lt c⟩ : Dev nD) = pt (dir 2) c := by revert c; decide +kernel
theorem dev7_eq (c : Dev nD) : (⟨k0_dev7 c, k0_dev7_lt c⟩ : Dev nD) = pt (dir 3) c := by revert c; decide +kernel
theorem dev8_eq (c : Dev nD) : (⟨k0_dev8 c, k0_dev8_lt c⟩ : Dev nD) = pt (dir 4) c := by revert c; decide +kernel
theorem dev9_eq (c : Dev nD) : (⟨k0_dev9 c, k0_dev9_lt c⟩ : Dev nD) = pt (dir 5) c := by revert c; decide +kernel
theorem dev10_eq (c : Dev nD) : (⟨k0_dev10 c, k0_dev10_lt c⟩ : Dev nD) = pt (dir 6) c := by revert c; decide +kernel
theorem dev11_eq (c : Dev nD) : (⟨k0_dev11 c, k0_dev11_lt c⟩ : Dev nD) = pt (dir 7) c := by revert c; decide +kernel
theorem dev12_eq (c : Dev nD) : (⟨k0_dev12 c, k0_dev12_lt c⟩ : Dev nD) = pt (dir 8) c := by revert c; decide +kernel

section Body
variable (A : Dev nD → S512x256.Idx → Elt F .bf16) (B : Dev nD → S256x512.Idx → Elt F .bf16) (K : Dev nD × Cix → ℕ)
variable (c : Dev nD)

/-- The right operand's staging buffer. -/
def bPts : sProp 𝕄 := ((c : Thread nD τ).loc cc0_stg1_0) ↦{fullShare} B c

/-- The three slots of a direction, at some contents. -/
def slots3 (c : Dev nD) (k : Fin 3) : sProp 𝕄 := iprop(slotAny (F := F) c (ex k 0) ∗ slotAny c (ex k 1) ∗ slotAny c (ex k 2))
theorem barPay_eq (k : Fin 3) : (barPay (pt k c) k : sProp 𝕄) = slots3 c k := by unfold barPay slots3; rw [pt_pt]
theorem barPay_own (k : Fin 3) : (barPay c k : sProp 𝕄) = slots3 (pt k c) k := rfl

/-- Signalling a partner that this device's slots for it may be filled. -/
theorem wp_signal_partner (k : Fin 3) (n : Dev nD) (hn : n = pt k c) (O : CellTallies nD τ sig Unit)
    {α : Type} {Q : α → sProp 𝕄} {kt : PUnit → Prog (TpuEff nD τ sig (Elt F) Λ₀ .tc) α} :
    iprop(env A B K ∗ dutyTok ER (barCell (pt k c)) 0 k ∗ slots3 c k ∗ owesE c (O + tallyAt (barCell (pt k c)) () 1))
      ⊢ iprop((owesE c O -∗ wp frame (wpE (defs₀ (F := F)) 𝒱₀ (c : Thread nD τ) none) Set.univ (kt ⟨⟩) Q)
          -∗ wp frame (wpE (defs₀ (F := F)) 𝒱₀ (c : Thread nD τ) none) Set.univ (.op (.semSignal (n, .tc) barS (1#32).toInt) kt) Q) := by
  subst hn
  unfold owesE
  iintro ⟨#HE, Ht, Hs, ⟨%Wt, HO⟩⟩ Hk
  ihave #HI := (env_inv A B K (pt k c, .inl ())) $$ HE
  ihave #HR := (env_reached A B K (pt k c, .inl ())) $$ HE
  iapply (Rounds.wp_signal 𝒱₀ ER (sys A B) (c : Thread nD τ) none (dst := (pt k c : Thread nD τ)) (κ := K (pt k c, .inl ()))
      (d := k) (by rw [duties_bar]; exact Finset.mem_univ _) ((amount_bar A B (pt k c) k).trans (by decide)) () O rfl) $$ [HO Ht Hs]
  · isplitr; · iexact HI
    isplitl [HO]; · iexact HO
    isplitl [Ht]; · iexact Ht
    isplitl [Hs]
    · rw [payload_bar, barPay_eq]; iexact Hs
    iexact HR
  iintro HO
  iapply Hk
  iexists _; iexact HO

/-- Waiting for the three partners: their slots for this device come with it, and the barrier semaphore is back at zero. -/
theorem wp_wait_partners {α : Type} {Q : α → sProp 𝕄} {kt : PUnit → Prog (TpuEff nD τ sig (Elt F) Λ₀ .tc) α} :
    iprop(env A B K ∗ cred (tallyAt (barCell c) () 3) ∗ atPos ER (barCell c) 0 ∅ 0 ∗ owesE c (Os c 9))
      ⊢ iprop(((slots3 (pt 0 c) 0 ∗ slots3 (pt 1 c) 1 ∗ slots3 (pt 2 c) 2 ∗ semVal (barCell c) 0 ∗ owesE c (Os c 9))
            -∗ wp frame (wpE (defs₀ (F := F)) 𝒱₀ (c : Thread nD τ) none) Set.univ (kt ⟨⟩) Q)
          -∗ wp frame (wpE (defs₀ (F := F)) 𝒱₀ (c : Thread nD τ) none) Set.univ (.op (.semWait barS (3#32).toInt) kt) Q) := by
  unfold owesE
  iintro ⟨#HE, Hc, Hat, ⟨%Wt, HO⟩⟩ Hk
  ihave #HI := (env_inv A B K (c, .inl ())) $$ HE
  ihave #Hlev := (env_lev A B K) $$ HE
  iapply (Rounds.wp_wait_rest_token 𝒱₀ ER (sys A B) (c : Thread nD τ) none (κ := K (c, .inl ()))
      (wpE_semWait_eq 𝒱₀ (c : Thread nD τ) none Set.univ) (Set.mem_univ _) () (O := Os c 9) (W := Wt) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar A B c)) $$ Hpay
  icases Hp with ⟨H0, H1, H2⟩
  imod (Rounds.cell_close ER (sys A B) (Set.mem_univ (K (c, .inl ()))) (fun h => h) (R := 0 + 1) (duties_later A B (barCell c))) $$ [Hat] with Hz
  · isplitr; · iexact HI
    iexact Hat
  iapply Hk
  isplitl [H0]; · rw [← barPay_own]; iexact H0
  isplitl [H1]; · rw [← barPay_own]; iexact H1
  isplitl [H2]; · rw [← barPay_own]; iexact H2
  isplitl [Hz]; · iexact Hz
  iexists _; iexact HO

/-! ## The buffers in pieces -/

theorem acc_split (f : S512x512.Idx → Elt F .bf16) :
    ((((c : Thread nD τ).loc cc0_scratch0) ↦{fullShare} f : sProp 𝕄)) = iprop(accPts c 0 f ∗ accPts c 1 f ∗ accPts c 2 f) := by
  unfold accPts
  rw [show (((c : Thread nD τ).loc cc0_scratch0) ↦{fullShare} f : sProp 𝕄)
      = ((c : Thread nD τ).loc cc0_scratch0) ↦[(Finset.univ : Finset (Fin 3)).biUnion accSet]{fullShare} f from by rw [accSet_cover],
    pointsTo_biUnion _ _ (fun p _ p' _ h => accSet_disjoint h)]
  exact bigSep_univ_eq_bigSepL [0, 1, 2] (by decide) (by decide) _

theorem recv_split (f : S3x512x512.Idx → Elt F .bf16) :
    ((((c : Thread nD τ).loc cc0_scratch1) ↦{fullShare} f : sProp 𝕄)) = bigSep Finset.univ fun i => slotPts c i f := by
  unfold slotPts
  rw [show (((c : Thread nD τ).loc cc0_scratch1) ↦{fullShare} f : sProp 𝕄)
      = ((c : Thread nD τ).loc cc0_scratch1) ↦[(Finset.univ : Finset (Fin 9)).biUnion slotSet]{fullShare} f from by rw [slotSet_cover],
    pointsTo_biUnion _ _ (fun p _ p' _ h => slotSet_disjoint h)]

theorem sep9 (Φ : Fin 9 → sProp 𝕄) : bigSep Finset.univ Φ
    = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The slots of a device, by direction. -/
theorem slots_by_dir (f : S3x512x512.Idx → Elt F .bf16) :
    ((((c : Thread nD τ).loc cc0_scratch1) ↦{fullShare} f : sProp 𝕄)) ⊢ iprop(slots3 c 0 ∗ slots3 c 1 ∗ slots3 c 2) := by
  rw [recv_split, sep9]
  unfold slots3 slotAny
  rw [show ex 0 0 = 0 from rfl, show ex 0 1 = 5 from rfl, show ex 0 2 = 7 from rfl,
    show ex 1 0 = 1 from rfl, show ex 1 1 = 3 from rfl, show ex 1 2 = 8 from rfl,
    show ex 2 0 = 2 from rfl, show ex 2 1 = 4 from rfl, show ex 2 2 = 6 from rfl]
  iintro ⟨H0, H1, H2, H3, H4, H5, H6, H7, H8⟩
  isplitl [H0 H5 H7]
  · isplitl [H0]; · iexists f; iexact H0
    isplitl [H5]; · iexists f; iexact H5
    iexists f; iexact H7
  isplitl [H1 H3 H8]
  · isplitl [H1]; · iexists f; iexact H1
    isplitl [H3]; · iexists f; iexact H3
    iexists f; iexact H8
  isplitl [H2]; · iexists f; iexact H2
  isplitl [H4]; · iexists f; iexact H4
  iexists f; iexact H6

/-- An exchange before its partner has signalled: all it needs but the partner's slot. -/
def half (c : Dev nD) (i : Fin 9) : sProp 𝕄 :=
  iprop((dutyTok ER (sendCell c i) 0 0 ∗ dutyTok ER (recvCell (pt (dir i) c) i) 0 0)
    ∗ (atPos ER (sendCell c i) 0 ∅ 0 ∗ atPos ER (recvCell c i) 0 ∅ 0 ∗ cred (tallyAt (recvCell c i) () (amt i))))
theorem ready_of (i : Fin 9) : iprop(slotAny (pt (dir i) c) i ∗ half c i) ⊢ (ready c i : sProp 𝕄) := by
  unfold half ready; exact BI.Entails.refl _

theorem readies : iprop(slots3 (pt 0 c) 0 ∗ slots3 (pt 1 c) 1 ∗ slots3 (pt 2 c) 2 ∗ bigSep Finset.univ (half c))
    ⊢ (bigSep Finset.univ (ready c) : sProp 𝕄) := by
  rw [sep9, sep9]
  unfold slots3
  iintro ⟨⟨S0, S5, S7⟩, ⟨S1, S3, S8⟩, ⟨S2, S4, S6⟩, H0, H1, H2, H3, H4, H5, H6, H7, H8⟩
  isplitl [S0 H0]; · iapply (ready_of c 0); isplitl [S0]; (iexact S0); iexact H0
  isplitl [S1 H1]; · iapply (ready_of c 1); isplitl [S1]; (iexact S1); iexact H1
  isplitl [S2 H2]; · iapply (ready_of c 2); isplitl [S2]; (iexact S2); iexact H2
  isplitl [S3 H3]; · iapply (ready_of c 3); isplitl [S3]; (iexact S3); iexact H3
  isplitl [S4 H4]; · iapply (ready_of c 4); isplitl [S4]; (iexact S4); iexact H4
  isplitl [S5 H5]; · iapply (ready_of c 5); isplitl [S5]; (iexact S5); iexact H5
  isplitl [S6 H6]; · iapply (ready_of c 6); isplitl [S6]; (iexact S6); iexact H6
  isplitl [S7 H7]; · iapply (ready_of c 7); isplitl [S7]; (iexact S7); iexact H7
  iapply (ready_of c 8); isplitl [S8]; (iexact S8); iexact H8

/-! ## The whole body -/

/-- What the body starts from, beside the operands and the result's buffer. -/
def before (c : Dev nD) : sProp 𝕄 :=
  iprop(env A B K ∗ atPos ER (barCell c) 0 ∅ 0 ∗ cred (tallyAt (barCell c) () 3)
    ∗ (dutyTok ER (barCell (pt 0 c)) 0 0 ∗ dutyTok ER (barCell (pt 1 c)) 0 1 ∗ dutyTok ER (barCell (pt 2 c)) 0 2)
    ∗ bigSep Finset.univ (half c)
    ∗ (∃ f : S512x512.Idx → Elt F .bf16, ((c : Thread nD τ).loc cc0_scratch0) ↦{fullShare} f)
    ∗ (∃ f : S3x512x512.Idx → Elt F .bf16, ((c : Thread nD τ).loc cc0_scratch1) ↦{fullShare} f))
/-- What it ends with: both scratch buffers whole, all its semaphores at zero. -/
def after (c : Dev nD) : sProp 𝕄 :=
  iprop((∃ f : S512x512.Idx → Elt F .bf16, ((c : Thread nD τ).loc cc0_scratch0) ↦{fullShare} f)
    ∗ (∃ f : S3x512x512.Idx → Elt F .bf16, ((c : Thread nD τ).loc cc0_scratch1) ↦{fullShare} f)
    ∗ (bigSep Finset.univ fun i => iprop(semVal (sendCell c i) 0 ∗ semVal (recvCell c i) 0))
    ∗ semVal (barCell c) 0)

theorem dones : iprop(done A B c 0 ∗ done A B c 1 ∗ done A B c 2 ∗ done A B c 3 ∗ done A B c 4 ∗ done A B c 5 ∗ done A B c 6 ∗ done A B c 7 ∗ done A B c 8)
    ⊢ iprop((((c : Thread nD τ).loc cc0_scratch1) ↦{fullShare} landed A B c)
      ∗ bigSep Finset.univ fun i => iprop(semVal (sendCell c i) 0 ∗ semVal (recvCell c i) 0)) := by
  rw [← sep9 (done A B c), recv_split, ← bigSep_sep']
  exact BI.Entails.refl _

theorem hz : (![0, 0] : Fin 2 → Nat) = fun _ => 0 := funext fun a => by fin_cases a <;> rfl
theorem read_b (f : S256x512.Idx → Elt F .bf16) (inb) :
    (bM : Memref sig .tc .vmem S256x512 .bf16).view.readAt (Elt F) (Rect.unit (s := S256x512) ![0, 0] S256x512.size inb).toLoadRect f = f :=
  Memref.readAt_unit_zero (Elt F) cc0_stg1_0 hz _ f

set_option maxHeartbeats 4000000 in
set_option maxRecDepth 20000 in
/-- The body, from the operands in their staging buffers to the device's result in its own. -/
theorem run_body (Kt : PUnit → sProp 𝕄) :
    iprop(before A B K c ∗ owesE c (O₀ c) ∗ aPts A c ∗ bPts B c
        ∗ (∃ f : S512x512.Idx → Elt F .f32, ((c : Thread nD τ).loc cc0_stg2_0) ↦{fullShare} f)
        ∗ ((after c ∗ owesE c 0 ∗ aPts A c ∗ bPts B c ∗ (((c : Thread nD τ).loc cc0_stg2_0) ↦{fullShare} outAt A B c)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel
    k0_part10_skel k0_part11_skel k0_part12_skel
  simp only [semSignalWord, semWaitWord, Prog.lift, Prog.bind_op, Prog.bind_ret, Prog.pure_eq_ret, wp_deviceId]
  unfold before
  iintro ⟨⟨#HE, HatB, HcB, ⟨Ht0, Ht1, Ht2⟩, Hhalf, ⟨%fa, Hacc⟩, ⟨%fr, Hrecv⟩⟩, HO, Ha, Hb, ⟨%fo, Hout⟩, Hk⟩
  ihave Hs := (slots_by_dir c fr) $$ Hrecv
  icases Hs with ⟨Hs0, Hs1, Hs2⟩
  ihave Hac := (Entails.of_eq (acc_split c fa)) $$ Hacc
  icases Hac with ⟨Ha0, Ha1, Ha2⟩
  iapply (wp_signal_partner A B K c 0 _ (dev1_eq c) (O₁ c)) $$ [Ht0 Hs0 HO]
  · isplitr; · iexact HE
    isplitl [Ht0]; · iexact Ht0
    isplitl [Hs0]; · iexact Hs0
    iexact HO
  iintro HO
  iapply (wp_signal_partner A B K c 1 _ (dev2_eq c) (O₂ c)) $$ [Ht1 Hs1 HO]
  · isplitr; · iexact HE
    isplitl [Ht1]; · iexact Ht1
    isplitl [Hs1]; · iexact Hs1
    iexact HO
  iintro HO
  iapply (wp_signal_partner A B K c 2 _ (dev3_eq c) (Os c 9)) $$ [Ht2 Hs2 HO]
  · isplitr; · iexact HE
    isplitl [Ht2]; · iexact Ht2
    isplitl [Hs2]; · iexact Hs2
    iexact HO
  iintro HO
  unfold bPts
  iapply (wp_load 𝒱₀ (c : Thread nD τ) none Set.univ (m := bM) (Finset.subset_univ _)) $$ Hb
  iintro Hb
  rw [read_b]
  iapply (wp_product A B c (p := 0) rfl rfl (prod_block0 (A c) (B c) _)) $$ [Ha Ha0]
  · isplitl [Ha]; · iexact Ha
    iexists fa; iexact Ha0
  iintro ⟨Ha, Ha0⟩
  iapply (wp_wait_partners A B K c) $$ [HcB HatB HO]
  · isplitr; · iexact HE
    isplitl [HcB]; · iexact HcB
    isplitl [HatB] <;> iassumption
  iintro ⟨Hs0, Hs1, Hs2, HzB, HO⟩
  ihave Hr := (readies c) $$ [Hs0 Hs1 Hs2 Hhalf]
  · isplitl [Hs0]; · iexact Hs0
    isplitl [Hs1]; · iexact Hs1
    isplitl [Hs2] <;> iassumption
  ihave Hr9 := (Entails.of_eq (sep9 (ready c))) $$ Hr
  icases Hr9 with ⟨R0, R1, R2, R3, R4, R5, R6, R7, R8⟩
  iapply (wp_send_block A B K c 0 _ (dev4_eq c) rfl rfl rfl rfl rfl 8 rfl) $$ [Ha0 R0 HO]
  · isplitr; · iexact HE
    isplitl [Ha0]; · iexact Ha0
    isplitl [R0] <;> iassumption
  iintro ⟨F0, HO⟩
  iapply (wp_product A B c (p := 1) rfl rfl (prod_block1 (A c) (B c) _)) $$ [Ha Ha1]
  · isplitl [Ha]; · iexact Ha
    iexists fa; iexact Ha1
  iintro ⟨Ha, Ha1⟩
  iapply (wp_send_block A B K c 1 _ (dev5_eq c) rfl rfl rfl rfl rfl 7 rfl) $$ [Ha1 R1 HO]
  · isplitr; · iexact HE
    isplitl [Ha1]; · iexact Ha1
    isplitl [R1] <;> iassumption
  iintro ⟨F1, HO⟩
  iapply (wp_product A B c (p := 2) (o := 352) (h := 160) (pay := fun v => k0_pay6 (k0_pay5 (k0_pay2 (B c)) v)) rfl rfl (prod_block2 (A c) (B c) _)) $$ [Ha Ha2]
  · isplitl [Ha]; · iexact Ha
    iexists fa; iexact Ha2
  iintro ⟨Ha, Ha2⟩
  iapply (wp_send_block A B K c 2 _ (dev6_eq c) rfl rfl rfl rfl rfl 6 rfl) $$ [Ha2 R2 HO]
  · isplitr; · iexact HE
    isplitl [Ha2]; · iexact Ha2
    isplitl [R2] <;> iassumption
  iintro ⟨F2, HO⟩
  iapply (wp_round A B K c 0 3 rfl 5 rfl _ (dev7_eq c) rfl rfl rfl rfl rfl rfl rfl rfl (fun v w x => sum_apply v w _ _ x)) $$ [F0 R3 HO]
  · isplitr; · iexact HE
    isplitl [F0]; · iexact F0
    isplitl [R3] <;> iassumption
  iintro ⟨D0, F3, HO⟩
  iapply (wp_round A B K c 1 4 rfl 4 rfl _ (dev8_eq c) rfl rfl rfl rfl rfl rfl rfl rfl (fun v w x => sum_apply v w _ _ x)) $$ [F1 R4 HO]
  · isplitr; · iexact HE
    isplitl [F1]; · iexact F1
    isplitl [R4] <;> iassumption
  iintro ⟨D1, F4, HO⟩
  iapply (wp_round A B K c 2 5 rfl 3 rfl _ (dev9_eq c) rfl rfl rfl rfl rfl rfl rfl rfl (fun v w x => sum_apply v w _ _ x)) $$ [F2 R5 HO]
  · isplitr; · iexact HE
    isplitl [F2]; · iexact F2
    isplitl [R5] <;> iassumption
  iintro ⟨D2, F5, HO⟩
  iapply (wp_round A B K c 3 6 rfl 2 rfl _ (dev10_eq c) rfl rfl rfl rfl rfl rfl rfl rfl (fun v w x => sum_apply v w _ _ x)) $$ [F3 R6 HO]
  · isplitr; · iexact HE
    isplitl [F3]; · iexact F3
    isplitl [R6] <;> iassumption
  iintro ⟨D3, F6, HO⟩
  iapply (wp_round A B K c 4 7 rfl 1 rfl _ (dev11_eq c) rfl rfl rfl rfl rfl rfl rfl rfl (fun v w x => sum_apply v w _ _ x)) $$ [F4 R7 HO]
  · isplitr; · iexact HE
    isplitl [F4]; · iexact F4
    isplitl [R7] <;> iassumption
  iintro ⟨D4, F7, HO⟩
  iapply (wp_round A B K c 5 8 rfl 0 rfl _ (dev12_eq c) rfl rfl rfl rfl rfl rfl rfl rfl (fun v w x => sum_apply v w _ _ x)) $$ [F5 R8 HO]
  · isplitr; · iexact HE
    isplitl [F5]; · iexact F5
    isplitl [R8] <;> iassumption
  iintro ⟨D5, F8, HO⟩
  ihave Hout := (show ((((c : Thread nD τ).loc cc0_stg2_0) ↦{fullShare} fo : sProp 𝕄)) ⊢ outSt A B c 0 from by
    unfold outSt
    iintro H
    iexists fo
    isplitr; · (ipureintro; intro x hx; exact absurd hx (Nat.not_lt_zero _))
    iexact H) $$ Hout
  iapply (wp_final A B K c 6 rfl rfl rfl rfl rfl rfl (fun v w x => wide_apply v w _ x)) $$ [F6 Hout HO]
  · isplitr; · iexact HE
    isplitl [F6]; · iexact F6
    isplitl [Hout]; (iexact Hout); iexact HO
  iintro ⟨D6, Ha0, Hout, HO⟩
  iapply (wp_final A B K c 7 rfl rfl rfl rfl rfl rfl (fun v w x => wide_apply v w _ x)) $$ [F7 Hout HO]
  · isplitr; · iexact HE
    isplitl [F7]; · iexact F7
    isplitl [Hout]; (iexact Hout); iexact HO
  iintro ⟨D7, Ha1, Hout, HO⟩
  iapply (wp_final A B K c 8 rfl rfl rfl rfl rfl rfl (fun v w x => wide_apply v w _ x)) $$ [F8 Hout HO]
  · isplitr; · iexact HE
    isplitl [F8]; · iexact F8
    isplitl [Hout]; (iexact Hout); iexact HO
  iintro ⟨D8, Ha2, Hout, HO⟩
  rw [wp_ret]; imodintro
  iapply Hk
  ihave HD := (dones A B c) $$ [D0 D1 D2 D3 D4 D5 D6 D7 D8]
  · isplitl [D0]; · iexact D0
    isplitl [D1]; · iexact D1
    isplitl [D2]; · iexact D2
    isplitl [D3]; · iexact D3
    isplitl [D4]; · iexact D4
    isplitl [D5]; · iexact D5
    isplitl [D6]; · iexact D6
    isplitl [D7]; · iexact D7
    iexact D8
  icases HD with ⟨Hr, Hz⟩
  isplitl [Ha0 Ha1 Ha2 Hr Hz HzB]
  · unfold after
    isplitl [Ha0 Ha1 Ha2]
    · iexists (W A B 2 c)
      iapply (Entails.of_eq (acc_split c (W A B 2 c)).symm)
      isplitl [Ha0]; · iexact Ha0
      isplitl [Ha1]; · iexact Ha1
      iexact Ha2
    isplitl [Hr]; · iexists (landed A B c); iexact Hr
    isplitl [Hz] <;> iassumption
  isplitl [HO]; · iexact HO
  isplitl [Ha]; · iexact Ha
  isplitl [Hb]; · iexact Hb
  unfold outSt
  icases Hout with ⟨%g, %hg, Hout⟩
  have hgo : g = outAt A B c := funext fun x => hg x (x 0).isLt
  rw [hgo]
  iexact Hout

end Body

end Cert.KernelIdeal.Run

end
-- ==== Proof.KernelIdeal.Ghost.lean ====
/-
What the launch deals the devices: the rounds of all cells, the tokens of the duties each device pays, and the credits
it waits on.
-/
module

public import proofs.«01_k».proof.Proof.KernelIdeal.Body

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx
open Idealize.ShloMosaic.Pipeline (Dat Cfg Window BodyObligation cellOf)

variable {F : FTy → Type} [FloatOps F]

local notation "𝕄" => MT nD τ sig Unit (Elt F) ℕ UU ℕ

/-! ## Cells and tokens as finite sets -/

/-- The kernel's own scoped semaphores: nine to send, nine to receive. -/
abbrev osem (k : Fin 9 ⊕ Fin 9) : SemLoc sig := csem (.inr k)

theorem ownSemFacts : Pipeline.OwnSemFacts cfg0.spec osem := by decide +kernel

theorem csem_inj : ∀ k k' : Cix, csem k = csem k' → k = k' := by decide +kernel
theorem kcell_injective : Function.Injective (kcell : Dev nD × Cix → GSem nD τ sig) := by
  rintro ⟨c, k⟩ ⟨c', k'⟩ h
  have h1 : c = c' := congrArg (fun g : GSem nD τ sig => g.1.1) h
  exact Prod.ext h1 (csem_inj k k' (congrArg Prod.snd h))
def allCells : Finset (GSem nD τ sig) := Finset.univ.map ⟨kcell, kcell_injective⟩

/-- The duties of a device's own cells: three at its barrier, one at each other cell. -/
abbrev Tix : Type := Fin 3 ⊕ (Fin 9 ⊕ Fin 9)
abbrev tsem : Tix → SemLoc sig
  | .inl _ => .reg barS
  | .inr k => osem k
abbrev tduty : Tix → Fin 3
  | .inl k => k
  | .inr _ => 0
abbrev tokOf (cj : Dev nD × Tix) : GSem nD τ sig × ℕ × Fin 3 := (((cj.1 : Thread nD τ), tsem cj.2), 0, tduty cj.2)
theorem tsem_inj : ∀ j j' : Tix, tsem j = tsem j' → tduty j = tduty j' → j = j' := by decide +kernel
theorem tokOf_injective : Function.Injective tokOf := by
  rintro ⟨c, j⟩ ⟨c', j'⟩ h
  have h1 : c = c' := congrArg (fun x : GSem nD τ sig × ℕ × Fin 3 => x.1.1.1) h
  exact Prod.ext h1 (tsem_inj j j' (congrArg (fun x : GSem nD τ sig × ℕ × Fin 3 => x.1.2) h) (congrArg (fun x : GSem nD τ sig × ℕ × Fin 3 => x.2.2) h))
def allToks : Finset (GSem nD τ sig × ℕ × Fin 3) := Finset.univ.map ⟨tokOf, tokOf_injective⟩

/-- What the launch holds: the staging pipeline's part and the exchanges'. -/
def u₀ : UU := (initOf (Pipeline.cells cfgs cellOf_inj) (Pipeline.launchToks cfgs cellOf_inj), initOf allCells allToks)

theorem sepSum {I J : Type} [Fintype I] [Fintype J] (Φ : I ⊕ J → sProp 𝕄) :
    bigSep Finset.univ Φ = iprop((bigSep Finset.univ fun i => Φ (.inl i)) ∗ bigSep Finset.univ fun j => Φ (.inr j)) := BI.bigSep_univ_sum Φ
theorem sep1 (Φ : Unit → sProp 𝕄) : bigSep Finset.univ Φ = Φ () := bigSep_univ_eq_bigSepL [()] (by decide) (by decide) Φ
theorem sep3 (Φ : Fin 3 → sProp 𝕄) : bigSep Finset.univ Φ = iprop(Φ 0 ∗ Φ 1 ∗ Φ 2) := bigSep_univ_eq_bigSepL [0, 1, 2] (by decide) (by decide) Φ

section Deal
variable (A : Dev nD → S512x256.Idx → Elt F .bf16) (B : Dev nD → S256x512.Idx → Elt F .bf16)

/-- The tokens of the duties of a device's own cells; -/
def toks (c : Dev nD) : sProp 𝕄 :=
  iprop((bigSep Finset.univ fun k : Fin 3 => dutyTok ER (barCell c) 0 k)
    ∗ (bigSep Finset.univ fun i : Fin 9 => dutyTok ER (sendCell c i) 0 0) ∗ (bigSep Finset.univ fun i : Fin 9 => dutyTok ER (recvCell c i) 0 0))
/-- the tokens of the duties it pays. -/
def payToks (c : Dev nD) : sProp 𝕄 :=
  iprop((bigSep Finset.univ fun k : Fin 3 => dutyTok ER (barCell (pt k c)) 0 k)
    ∗ (bigSep Finset.univ fun i : Fin 9 => dutyTok ER (sendCell c i) 0 0) ∗ (bigSep Finset.univ fun i : Fin 9 => dutyTok ER (recvCell (pt (dir i) c) i) 0 0))

/-- What each device is dealt first, -/
def G (c : Dev nD) : sProp 𝕄 :=
  iprop((bigSep Finset.univ fun k : Cix => roundState ER (sys A B) (kcell (c, k)) 0)
    ∗ (bigSep Finset.univ fun k : Cix => iprop(atPos ER (kcell (c, k)) 0 ∅ 0 ∗ reached ER (kcell (c, k)) 0)) ∗ toks c)
/-- and what it has once the tokens are exchanged. -/
def ghost (K : Dev nD × Cix → ℕ) (c : Dev nD) : sProp 𝕄 :=
  iprop(records A B K ∗ (bigSep Finset.univ fun k : Cix => atPos ER (kcell (c, k)) 0 ∅ 0) ∗ payToks c)
def G' (c : Dev nD) : sProp 𝕄 := iprop(∃ K, ghost A B K c)

theorem fund_all : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [sepSum, sepSum]; rfl
  iintro HX
  imod (Rounds.fund ER (sys A B) allCells allToks) $$ HX with ⟨Hst, Hr, Hat, Htok⟩
  imodintro
  ihave Hst' := (Entails.of_eq (hX fun g => roundState ER (sys A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun i => iprop(semVal (sendCell c i) 0 ∗ semVal (recvCell c i) 0) := by
  unfold Pipeline.ownSems0; rw [sepSum, bigSep_sep']

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [unscopedSems0_eq, sepSum (fun k : Cix => (semVal (kcell (c, k)) 0 : sProp 𝕄)),
    sep1 (fun a : Unit => (semVal (kcell (c, .inl a)) 0 : sProp 𝕄))]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (sys A B) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Cix => semVal (kcell (c, k)) 0) ∗ bigSep Finset.univ fun k : Cix => roundState ER (sys A B) (kcell (c, k)) 0)
      ⊢ (|={Set.univ}=> bigSep Finset.univ fun k => iprop(∃ κ : ℕ, cellInv ER (sys A B) κ (kcell (c, k))) : sProp 𝕄) from by
        rw [← bigSep_sep']
        exact (bigSep_mono fun k _ => (Rounds.body_intro ER (sys A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The partner map in a direction, as a rearrangement of the devices. -/
def ptEquiv (k : Fin 3) : Dev nD ≃ Dev nD := ⟨pt k, pt k, pt_pt k, pt_pt k⟩

/-- Tokens of a family of cells, one family member's direction at a time, dealt to the partners. -/
theorem deal {I : Type} [Fintype I] (d : I → Fin 3) (Φ : Dev nD → I → sProp 𝕄) :
    (bigSep Finset.univ fun c => bigSep Finset.univ fun i => Φ c i) = bigSep Finset.univ fun c => bigSep Finset.univ fun i => Φ (pt (d i) c) i := by
  rw [bigSep_univ_comm, bigSep_univ_comm (fun c i => Φ (pt (d i) c) i)]
  exact bigSep_congr fun i _ => bigSep_univ_equiv (ptEquiv (d i)) (fun c => Φ c i)

theorem toks_around : (bigSep Finset.univ fun c : Dev nD => (toks c : sProp 𝕄)) ⊢ bigSep Finset.univ fun c : Dev nD => payToks c := by
  unfold toks payToks
  rw [bigSep_sep', bigSep_sep', bigSep_sep', bigSep_sep', deal id (fun c k => (dutyTok ER (barCell c) 0 k : sProp 𝕄)),
    deal dir (fun c i => (dutyTok ER (recvCell c i) 0 0 : sProp 𝕄))]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sys A B) κ (kcell (c, k))))
          ∗ (bigSep Finset.univ fun k => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun ck : Dev nD × Cix => iprop(∃ κ : ℕ, cellInv ER (sys A B) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (sys A B) κ (kcell ck) : sProp 𝕄))) $$ HI
  icases HK with ⟨%K, #HI⟩
  ihave Htk := (toks_around (F := F)) $$ Htok
  iapply (with_persistent (R := records A B K) (Φ := fun c => iprop((bigSep Finset.univ fun k : Cix => atPos ER (kcell (c, k)) 0 ∅ 0) ∗ payToks c))
    (fun c _ => by unfold G' ghost; iintro H; iexists K; iexact H))
  isplitr
  · unfold records; isplitl; · iexact HI
    iexact HR
  · iapply (Entails.of_eq (bigSep_sep' Finset.univ (fun c : Dev nD => bigSep Finset.univ fun k : Cix => (atPos ER (kcell (c, k)) 0 ∅ 0 : sProp 𝕄)) payToks).symm)
    isplitl [Hat]; · iexact Hat
    iexact Htk

/-- The step all devices take together before the kernel starts. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credits at launch -/

theorem bar_ne_recv (c d : Dev nD) (i : Fin 9) : barCell c ≠ recvCell d i := fun h => by cases congrArg Prod.snd h
theorem bar_eq_iff {a b : Dev nD} : barCell a = barCell b ↔ a = b := ⟨fun h => congrArg (fun g : GSem nD τ sig => g.1.1) h, fun h => h ▸ rfl⟩
theorem recv_eq_iff {a b : Dev nD} {i j : Fin 9} : recvCell a i = recvCell b j ↔ a = b ∧ i = j :=
  ⟨fun h => ⟨congrArg (fun g : GSem nD τ sig => g.1.1) h, by
    have := congrArg (fun g : GSem nD τ sig => g.2) h
    have h2 : (Sum.inr (.inr i) : Cix) = .inr (.inr j) := csem_inj _ _ this
    exact Sum.inr_injective (Sum.inr_injective h2)⟩, fun ⟨h, h'⟩ => h ▸ h' ▸ rfl⟩

theorem Os_sum (d : Dev nD) : Os d 9 = ∑ i : Fin 9, owed d i := by
  rw [Fin.sum_univ_castSucc, Fin.sum_univ_eight]
  unfold Os Os Os Os Os Os Os Os Os Os
  rw [zero_add]
  show owed d 8 + owed d 7 + owed d 6 + owed d 5 + owed d 4 + owed d 3 + owed d 2 + owed d 1 + owed d 0
    = owed d 0 + owed d 1 + owed d 2 + owed d 3 + owed d 4 + owed d 5 + owed d 6 + owed d 7 + owed d 8
  ac_rfl

theorem Os_at_bar (d c : Dev nD) : Os d 9 (barCell c) () = 0 := by
  by_contra h
  obtain ⟨i, _, hi⟩ := Os_pos (c := d) (g := barCell c) (u := ()) 9 le_rfl (Nat.pos_of_ne_zero h)
  exact bar_ne_recv _ _ _ hi
theorem Os_at_recv (d c : Dev nD) (i : Fin 9) : Os d 9 (recvCell c i) () = if d = pt (dir i) c then amt i else 0 := by
  rw [Os_sum, Finset.sum_apply, Finsupp.finset_sum_apply, Finset.sum_eq_single i]
  · unfold owed
    rw [tallyAt_apply]
    refine if_congr ?_ rfl rfl
    rw [recv_eq_iff, and_iff_left rfl, and_iff_left rfl, eq_comm, pt_eq_iff]
  · intro j _ hj
    unfold owed
    rw [tallyAt_apply, if_neg (fun h => hj (recv_eq_iff.mp h.1).2.symm)]
  · intro h; exact absurd (Finset.mem_univ _) h

theorem tally_bar (d c : Dev nD) (k : Fin 3) :
    (tallyAt (barCell (pt k d)) () 1 : CellTallies nD τ sig Unit) (barCell c) () = if d = pt k c then 1 else 0 := by
  rw [tallyAt_apply]
  refine if_congr ?_ rfl rfl
  rw [bar_eq_iff, and_iff_left rfl, eq_comm, pt_eq_iff]

/-- What device `d` owes device `c`'s barrier: a unit for each direction in which they are partners. -/
theorem owed_bar (d c : Dev nD) : O₀ d (barCell c) () = ((if d = pt 2 c then 1 else 0) + (if d = pt 1 c then 1 else 0)) + (if d = pt 0 c then 1 else 0) := by
  have h := Os_at_bar d c
  unfold O₀ O₁ O₂
  generalize Os d 9 = T at h
  rw [Pi.add_apply, Finsupp.add_apply, Pi.add_apply, Finsupp.add_apply, Pi.add_apply, Finsupp.add_apply, h, tally_bar, tally_bar, tally_bar, Nat.zero_add]
/-- What it owes device `c`'s receive cell of exchange `i`: its credit, if they are partners in it. -/
theorem owed_recv (d c : Dev nD) (i : Fin 9) : O₀ d (recvCell c i) () = if d = pt (dir i) c then amt i else 0 := by
  have h := Os_at_recv d c i
  unfold O₀ O₁ O₂
  generalize Os d 9 = T at h
  rw [Pi.add_apply, Finsupp.add_apply, Pi.add_apply, Finsupp.add_apply, Pi.add_apply, Finsupp.add_apply, h,
    tallyAt_ne_cell (bar_ne_recv _ _ _).symm, tallyAt_ne_cell (bar_ne_recv _ _ _).symm, tallyAt_ne_cell (bar_ne_recv _ _ _).symm,
    Finsupp.zero_apply, Nat.add_zero, Nat.add_zero, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (pt 2 c) fun _ => 1, Finset.sum_ite_eq' Finset.univ (pt 1 c) fun _ => 1, Finset.sum_ite_eq' Finset.univ (pt 0 c) fun _ => 1,
    if_pos (Finset.mem_univ _), if_pos (Finset.mem_univ _), if_pos (Finset.mem_univ _)]
theorem launch_recv (c : Dev nD) (i : Fin 9) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (pt (dir i) c) fun _ => amt i, if_pos (Finset.mem_univ _)]

theorem creds (c : Dev nD) :
    (Pipeline.launchCred O₀ c : sProp 𝕄) ⊢ iprop(cred (tallyAt (barCell c) () 3) ∗ bigSep Finset.univ fun i => cred (tallyAt (recvCell c i) () (amt i))) := by
  unfold Pipeline.launchCred
  rw [bigSep_univ_at _ (SemLoc.reg barS), launch_bar]
  refine sep_mono_right ?_
  have hinj : Function.Injective fun i : Fin 9 => (SemLoc.dma (recvS i) : SemLoc sig) := fun i j h =>
    Sum.inr_injective (Sum.inr_injective (csem_inj (.inr (.inr i)) (.inr (.inr j)) h))
  refine (BI.bigSep_subset (t := Finset.univ.map ⟨_, hinj⟩) (fun x hx => ?_)).trans ?_
  · obtain ⟨i, _, rfl⟩ := Finset.mem_map.mp hx
    exact Finset.mem_erase.mpr ⟨(by intro h; cases h), Finset.mem_univ _⟩
  · rw [bigSep_map]
    exact bigSep_mono fun i _ => Entails.of_eq (congrArg cred (launch_recv c i))

/-- What the body needs, from what a device is dealt and its scratch buffers. -/
theorem before_intro (c : Dev nD) :
    iprop(G' A B c ∗ (cred (tallyAt (barCell c) () 3) ∗ bigSep Finset.univ fun i => cred (tallyAt (recvCell c i) () (amt i))) ∗ levAts L lv
        ∗ (∃ f : S512x512.Idx → Elt F .bf16, ((c : Thread nD τ).loc cc0_scratch0) ↦{fullShare} f)
        ∗ (∃ f : S3x512x512.Idx → Elt F .bf16, ((c : Thread nD τ).loc cc0_scratch1) ↦{fullShare} f))
      ⊢ iprop(∃ K, before A B K c) := by
  unfold G' ghost payToks
  rw [sepSum (fun k : Cix => (atPos ER (kcell (c, k)) 0 ∅ 0 : sProp 𝕄)), sepSum,
    sep1 (fun a : Unit => (atPos ER (kcell (c, .inl a)) 0 ∅ 0 : sProp 𝕄)),
    sep3 (fun k : Fin 3 => (dutyTok ER (barCell (pt k c)) 0 k : sProp 𝕄))]
  iintro ⟨⟨%K, HR, ⟨HaB, HaS, HaV⟩, HtB, HtS, HtV⟩, ⟨HcB, HcV⟩, Hlev, Hacc, Hrecv⟩
  iexists K
  unfold before env half
  simp only [bigSep_sep']
  isplitl [HR Hlev]
  · isplitl [HR] <;> iassumption
  isplitl [HaB]; · iexact HaB
  isplitl [HcB]; · iexact HcB
  isplitl [HtB]; · iexact HtB
  isplitl [HaS HaV HtS HtV HcV]
  · isplitl [HtS HtV]
    · isplitl [HtS] <;> iassumption
    isplitl [HaS]; · iexact HaS
    isplitl [HaV]; · iexact HaV
    iexact HcV
  isplitl [Hacc] <;> iassumption

end Deal

end Cert.KernelIdeal.Run

end
-- ==== Proof.KernelIdeal.Launch.lean ====
/-
The run of the whole program: the staging pipeline around the body, its launch, and what each device's arrays hold at
the end.
-/
module

public import proofs.«01_k».proof.Proof.KernelIdeal.Ghost
public import proofs.«01_k».proof.Proof.Gen.KernelIdeal.Points
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: the given contents, every counter at zero. -/
def s₀ : MemSt nD τ sig (Elt F) := ⟨m, fun _ => 0, ρ⟩

/-- The operands of the devices. -/
def Am (c : Dev nD) : S512x256.Idx → Elt F .bf16 := (win0_0.blk (0 : Fin 1)).view.read (Elt F) ((s₀ m ρ).mem ((c : Thread nD τ).loc main_arg0))
def Bm (c : Dev nD) : S256x512.Idx → Elt F .bf16 := (win0_1.blk (0 : Fin 1)).view.read (Elt F) ((s₀ m ρ).mem ((c : Thread nD τ).loc main_arg1))

/-! ## The pipeline's data -/

/-- What a device enters the body with, but for the scratch buffers; -/
def start (c : Dev nD) : sProp 𝕄 :=
  iprop(G' (Am m ρ) (Bm m ρ) c
    ∗ (cred (tallyAt (barCell c) () 3) ∗ bigSep Finset.univ fun i => cred (tallyAt (recvCell c i) () (amt i))) ∗ levAts L lv)
/-- with them. -/
def Φ₀ (c : Dev nD) : sProp 𝕄 :=
  iprop(start m ρ c ∗ (∃ f : S512x512.Idx → Elt F .bf16, ((c : Thread nD τ).loc cc0_scratch0) ↦{fullShare} f)
    ∗ (∃ f : S3x512x512.Idx → Elt F .bf16, ((c : Thread nD τ).loc cc0_scratch1) ↦{fullShare} f))

/-- The one grid point: the operands are left as fetched, the result is the sum over the exchanges. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Am m ρ c
    | ⟨1, _⟩ => Bm m ρ c
    | ⟨2, _⟩ => outAt (Am m ρ) (Bm m ρ) c
  Φ t := match t with
    | ⟨0, _⟩ => Φ₀ m ρ c
    | ⟨_ + 1, _⟩ => after c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staging buffer `b` of device `c` at contents `X`, as the pipeline states it. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_A (c : Dev nD) (d) : (dats m ρ 0 c).before (0 : Fin 3) t0_0 d = Am m ρ c := by
  unfold Dat.before; rw [if_pos (fetch0_0 t0_0)]; rfl
theorem before_B (c : Dev nD) (d) : (dats m ρ 0 c).before (1 : Fin 3) t0_0 d = Bm m ρ c := by
  unfold Dat.before; rw [if_pos (fetch0_1 t0_0)]; rfl

def preB (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def postB (c : Dev nD) : sProp 𝕄 :=
  iprop(after c ∗ (dats m ρ 0 c).owesAt () t0_0.succ
    ∗ stg c cc0_stg0_0 (Am m ρ c) ∗ stg c cc0_stg1_0 (Bm m ρ c) ∗ stg c cc0_stg2_0 (outAt (Am m ρ) (Bm m ρ) c))

theorem owes_in (c : Dev nD) : (dats m ρ 0 c).owesAt () t0_0.castSucc ⊢ owesE c (O₀ c) := by
  unfold Dat.owesAt Pipeline.owesWithin owesE
  iintro ⟨%Wt, -, H⟩
  iexists Wt; iexact H
theorem owes_out (c : Dev nD) : owesE c 0 ⊢ (dats m ρ 0 c).owesAt () t0_0.succ := by
  unfold Dat.owesAt Pipeline.owesWithin owesE
  iintro ⟨%Wt, H⟩
  iexists Wt
  isplitr; · ipureintro; exact fun _ _ => Or.inl trivial
  iexact H

set_option maxRecDepth 4000 in
/-- The body meets the pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show preB m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3)
    (fun _ => postB m ρ c)
  unfold preB Φ₀ start
  simp only [before_A, before_B]
  iintro ⟨⟨⟨HG, Hcr, Hlev⟩, Hacc, Hrecv⟩, Ho, ⟨%d0, %f0, %e0, HA⟩, ⟨%d1, %f1, %e1, HB⟩, ⟨%d2, %f2, %e2, Hout⟩⟩
  subst e0 e1
  ihave HK := (before_intro (Am m ρ) (Bm m ρ) c) $$ [HG Hcr Hlev Hacc Hrecv]
  · isplitl [HG]; · iexact HG
    isplitl [Hcr]; · iexact Hcr
    isplitl [Hlev]; · iexact Hlev
    isplitl [Hacc] <;> iassumption
  icases HK with ⟨%K, HK⟩
  ihave Ho' := (owes_in m ρ c) $$ Ho
  iapply (run_body (Am m ρ) (Bm m ρ) K c fun _ => postB m ρ c)
  isplitl [HK]; · iexact HK
  isplitl [Ho']; · iexact Ho'
  isplitl [HA]; · unfold aPts; iexact HA
  isplitl [HB]; · unfold bPts; iexact HB
  isplitl [Hout]; · iexists f2; iexact Hout
  unfold postB aPts bPts
  iintro ⟨Haf, Ho, HA, HB, Hout⟩
  isplitl [Haf]; · iexact Haf
  isplitl [Ho]; · iapply (owes_out m ρ c); iexact Ho
  isplitl [HA]; · iexists (Am m ρ c); isplitr; · ipureintro; rfl
                  iexact HA
  isplitl [HB]; · iexists (Bm m ρ c); isplitr; · ipureintro; rfl
                  iexact HB
  iexists (outAt (Am m ρ) (Bm m ρ) c); isplitr; · ipureintro; rfl
  iexact Hout

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Am m ρ) (Bm m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hacc⟩, ⟨%g, Hrecv⟩⟩
  isplitl [Hs]; · iexact Hs
  isplitl [Hacc]; · iexists f; iexact Hacc
  iexists g; iexact Hrecv

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, ownSems0_eq, unscopedSems0_eq]
  unfold after
  iintro ⟨⟨%f, Hacc⟩, ⟨%g, Hrecv⟩, Hz, HzB⟩
  isplitl [HzB]; · iexact HzB
  isplitl [Hz]; · iexact Hz
  isplitl [Hacc]; · iexists f; iexact Hacc
  iexists g; iexact Hrecv

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s array behind window `w` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every fair execution of the eight devices ends, with every array a window
    stages at `finalA` and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Am m ρ) (Bm m ρ)) (G' := G' (Am m ρ) (Bm m ρ)) (u₀ := u₀)
    (hu₀ := by
      unfold u₀
      iintro Hu
      ihave H := (ownU_pair _ _) $$ Hu
      icases H with ⟨HP, HX⟩
      imod (fund_all (Am m ρ) (Bm m ρ)) $$ HX with HG
      imodintro
      isplitl [HP] <;> iassumption)
    (hglob := glob (Am m ρ) (Bm m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem finalA_A (c : Dev nD) : finalA m ρ c (0 : Fin 3) = m ((c : Thread nD τ).loc main_arg0) := (dats (F := F) m ρ 0 c).arrAt_in (0 : Fin 3) rfl _
theorem finalA_B (c : Dev nD) : finalA m ρ c (1 : Fin 3) = m ((c : Thread nD τ).loc main_arg1) := (dats (F := F) m ρ 0 c).arrAt_in (1 : Fin 3) rfl _

/-- The windows are whole arrays: the operands are the argument buffers, -/
theorem Am_eq (c : Dev nD) : Am m ρ c = m ((c : Thread nD τ).loc main_arg0) :=
  Memref.read_access_unit_zero (Elt F) main_arg0 (funext fun a => by fin_cases a <;> decide) (fun a => by fin_cases a <;> decide) _
theorem Bm_eq (c : Dev nD) : Bm m ρ c = m ((c : Thread nD τ).loc main_arg1) :=
  Memref.read_access_unit_zero (Elt F) main_arg1 (funext fun a => by fin_cases a <;> decide) (fun a => by fin_cases a <;> decide) _
/-- and the result buffer ends at the sum. -/
theorem finalA_out (c : Dev nD) : finalA m ρ c (2 : Fin 3) = outAt (Am m ρ) (Bm m ρ) c := by
  have hr := fun f => Memref.read_access_unit_zero (Elt F) main_v1
    (off := fun a => (win0_2.index (0 : Fin 1)) a * main_v1.ty.shape.size a)
    (funext fun a => by fin_cases a <;> decide) (fun a => by fin_cases a <;> decide) f
  refine (hr _).symm.trans ?_
  show (win0_2.blk (0 : Fin 1)).view.read (Elt F) (finalA m ρ c (2 : Fin 3)) = _
  unfold finalA
  rw [show cfg0.N = ((0 : Fin 1) : Fin cfg0.N).val + 1 from rfl, (dats m ρ 0 c).arrAt_succ (2 : Fin 3) (0 : Fin 1), if_pos (flush0_2 (0 : Fin 1))]
  exact View.read_write_univ _ _

/-- The run, read at the arrays: the result buffer of each device at the sum, its operands unchanged. -/
theorem run_value : θ_run defs (onTc (τ := τ) (main (F := F))) (⟨m, fun _ => 0, ρ⟩ : MemSt nD τ sig (Elt F)) (fun r =>
    (∀ c : Dev nD, r.2.mem ((c : Thread nD τ).loc main_v1)
        = outAt (fun d : Dev nD => m ((d : Thread nD τ).loc main_arg0)) (fun d : Dev nD => m ((d : Thread nD τ).loc main_arg1)) c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  have hA : Am m ρ = fun c : Dev nD => m ((c : Thread nD τ).loc main_arg0) := funext (Am_eq m ρ)
  have hB : Bm m ρ = fun c : Dev nD => m ((c : Thread nD τ).loc main_arg1) := funext (Bm_eq m ρ)
  refine (θ_run defs _ _).mono (fun r h => ⟨fun c => ⟨?_, (h.1 c (0 : Fin 3)).trans (finalA_A m ρ c), (h.1 c (1 : Fin 3)).trans (finalA_B m ρ c)⟩, h.2⟩) (run_main m ρ)
  refine ((h.1 c (2 : Fin 3)).trans (finalA_out m ρ c)).trans ?_
  rw [hA, hB]

end Cert.KernelIdeal.Run

end
-- ==== Proof.KernelIdeal.Sum.lean ====
/-
The value of the exchanges over the extended reals: three steps of pairwise sums on every device add the partial
products of all eight devices, and those add up to the whole product.
-/
module

public import proofs.«01_k».proof.Proof.KernelIdeal.Blocks
public import Idealize.ShloMosaic.Lib.MatmulPlain
public import Idealize.ShloMosaic.Lib.ValueIdx
public import Idealize.ShloMosaic.Lib.StackMember
public import Idealize.ShloMosaic.Lib.Pointwise.Sums

@[expose] public section

noncomputable section

namespace Cert.KernelIdeal.Run

open Cert.KernelIdeal Cert.KernelIdeal.Gen

open Idealize.ShloMosaic
open Idealize.ShloMosaic.TcCoe
open ValueIdx

/-! ## Three steps reach all eight devices -/

/-- The device reached from `c` by taking or not taking each step's exchange of row block `p`, the last step first. -/
def reach (p : Fin 3) (c : Dev nD) (t : Fin 2 × Fin 2 × Fin 2) : Dev nD :=
  let go (s : ℕ) (b : Fin 2) (d : Dev nD) : Dev nD := if b = 0 then d else pt (dirAt s p) d
  go 0 t.2.2 (go 1 t.2.1 (go 2 t.1 c))

/-- Every device is reached in exactly one way. -/
theorem reach_bijective (p : Fin 3) (c : Dev nD) : Function.Bijective (reach p c) := by
  revert p c; decide +kernel

/-- A sum over the devices, in the order in which the exchanges of block `p` add them up on device `c`. -/
theorem sum_reach {M : Type} [AddCommMonoid M] (f : Dev nD → M) (p : Fin 3) (c : Dev nD) :
    ∑ d, f d = ((f c + f (pt (dirAt 0 p) c)) + (f (pt (dirAt 1 p) c) + f (pt (dirAt 0 p) (pt (dirAt 1 p) c))))
      + ((f (pt (dirAt 2 p) c) + f (pt (dirAt 0 p) (pt (dirAt 2 p) c)))
        + (f (pt (dirAt 1 p) (pt (dirAt 2 p) c)) + f (pt (dirAt 0 p) (pt (dirAt 1 p) (pt (dirAt 2 p) c))))) := by
  rw [← (reach_bijective p c).sum_comp f]
  simp only [Fintype.sum_prod_type, Fin.sum_univ_two]
  rfl

variable (A : Dev nD → S512x256.Idx → Elt Ideal .bf16) (B : Dev nD → S256x512.Idx → Elt Ideal .bf16)

/-- After three steps every device holds the sum of all devices' partial products. -/
theorem W_three (c : Dev nD) (x : S512x512.Idx) : W A B 3 c x = ∑ d, (prod (A d) (B d) x : EReal) :=
  (sum_reach (M := EReal) (fun d => prod (A d) (B d) x) (rb (x 0).val) c).symm

/-! ## The partial products -/

/-- A product of `h` rows from row `o`, at a row of that block. -/
theorem rows_product {o h : ℕ} (ia : ∀ a, (![o, 0] : Fin 2 → ℕ) a + (![h, 256] : Fin 2 → ℕ) a ≤ S512x256.size a) (hh : 0 < h)
    (X : S512x256.Idx → Elt Ideal .bf16) (Y : S256x512.Idx → Elt Ideal .bf16) (x : S512x512.Idx)
    (ho : o ≤ (x 0).val) (hx : (x 0).val < o + h) :
    FloatOps.matmul (F := Ideal) (φ₁ := .bf16) (φ₂ := .bf16) (DotDims.plain h 256 512) none (rowsOf o h ia X) Y (constant (F := Ideal) ⟨2, ![h, 512]⟩ .f32 0x00000000#32) (down o h hh x)
      = ∑ k : Fin 256, (X (ValueIdx.ix2 (x 0) k) * Y (ValueIdx.ix2 k (x 1)) : EReal) := by
  refine (Ideal.matmul_plain_apply none (rowsOf o h ia X) Y _ _ (x 1)).trans ?_
  rw [constant_apply, Ideal.ofBits_zero_f32, zero_add]
  refine Finset.sum_congr rfl fun k _ => congrArg (· * _) (congrArg X ?_)
  funext a
  match a with
  | ⟨0, _⟩ =>
    refine Fin.ext ?_
    show o + 1 * (((x 0).val - o) % h) = (x 0).val
    rw [Nat.mod_eq_of_lt (by omega)]; omega
  | ⟨1, _⟩ => exact Fin.ext (show 0 + 1 * k.val = k.val by omega)

/-- A row lies in one of the three blocks. -/
theorem rb_cases (n : ℕ) : rb n = 0 ∨ rb n = 1 ∨ rb n = 2 := by
  unfold rb; split_ifs <;> simp

/-- The partial product of a device, element by element: its columns of the left operand with its rows of the right. -/
theorem prod_apply (X : S512x256.Idx → Elt Ideal .bf16) (Y : S256x512.Idx → Elt Ideal .bf16) (x : S512x512.Idx) :
    prod X Y x = ∑ k : Fin 256, (X (ValueIdx.ix2 (x 0) k) * Y (ValueIdx.ix2 k (x 1)) : EReal) := by
  have hx : (x 0).val < 512 := (x 0).isLt
  have hr := fun p => rb_eq_iff p (x 0).val hx
  unfold prod
  rcases rb_cases (x 0).val with h | h | h <;> rw [h]
  · unfold k0_pay3 k0_pay2
    simp only [shapeCast_self]
    exact rows_product _ _ X Y x ((hr 0).mp h).1 ((hr 0).mp h).2
  · unfold k0_pay4 k0_pay2
    simp only [shapeCast_self]
    exact rows_product _ _ X Y x ((hr 1).mp h).1 ((hr 1).mp h).2
  · unfold k0_pay6 k0_pay5 k0_pay2
    simp only [shapeCast_self]
    exact rows_product _ _ X Y x ((hr 2).mp h).1 ((hr 2).mp h).2

/-! ## The whole product -/

/-- Where every device holds its columns of a left operand `U` and its rows of a right operand `V`, each device's result is
    the product of `U` and `V`. -/
theorem outAt_eq (U : (⟨2, ![512, 2048]⟩ : Shape).Idx → Elt Ideal .bf16) (V : (⟨2, ![2048, 512]⟩ : Shape).Idx → Elt Ideal .bf16) (c : Dev nD) (x : S512x512.Idx) :
    outAt (fun d => Layout.block ⟨2, ![512, 256]⟩ ⟨2, ![512, 2048]⟩ 1 8 d U) (fun d => Layout.block ⟨2, ![256, 512]⟩ ⟨2, ![2048, 512]⟩ 0 8 d V) c x
      = ∑ k : Fin 2048, (U (ValueIdx.ix2 (x 0) k) * V (ValueIdx.ix2 k (x 1)) : EReal) := by
  refine (W_three _ _ c x).trans ?_
  rw [ Fin.sum_univ_tiles 8 256 rfl]
  refine Finset.sum_congr rfl fun d _ => ?_
  rw [prod_apply]
  refine Finset.sum_congr rfl fun k _ => ?_
  rw [Layout.block_apply, Layout.block_apply]
  refine congrArg₂ (fun a b : EReal => a * b) (congrArg U ?_) (congrArg V ?_)
  · funext a
    match a with
    | ⟨0, _⟩ => rfl
    | ⟨1, _⟩ => rfl
  · funext a
    match a with
    | ⟨0, _⟩ => rfl
    | ⟨1, _⟩ => rfl

end Cert.KernelIdeal.Run

end
-- ==== Proof.Claims.lean ====
/-
The claims: each frame is the run with its values dropped, and the value claim joins the kernel's run and the
reference's at the whole product.
-/
module

public import proofs.«01_k».proof.Defs
public import proofs.«01_k».proof.Proof.Kernel.Launch
public import proofs.«01_k».proof.Proof.KernelIdeal.Launch
public import proofs.«01_k».proof.Proof.KernelIdeal.Sum
public import proofs.«01_k».proof.Proof.Gen.ReferenceIdeal.Run

@[expose] public section

noncomputable section

namespace Cert.Proof

open Idealize.ShloMosaic Idealize.ShloMosaic.TcCoe Idealize.SL.Sem

/-- The kernel as lowered runs to the end, its operands unchanged and its counters at zero. -/
theorem frame_kernel : Cert.quiescent_Kernel := fun m g _ =>
  (θ_run Cert.Kernel.defs _ _).mono (fun _ h => ⟨fun c => (h.1 c).2, h.2⟩) (Cert.Kernel.Run.run_value (F := Bits) m g)

/-- So does the kernel read over the extended reals, -/
theorem frame_ideal : Cert.quiescent_KernelIdeal := fun m g _ =>
  (θ_run Cert.KernelIdeal.defs _ _).mono (fun _ h => ⟨fun c => (h.1 c).2, h.2⟩) (Cert.KernelIdeal.Run.run_value (F := Ideal) m g)

/-- and the reference, which has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

section Reference
open Cert.ReferenceIdeal Cert.ReferenceIdeal.Gen

/-- The reference's result, element by element: the product of its operands. -/
theorem reference_apply (U : (⟨2, ![512, 2048]⟩ : Shape).Idx → Elt Ideal .bf16) (V : (⟨2, ![2048, 512]⟩ : Shape).Idx → Elt Ideal .bf16)
    (x : (⟨2, ![512, 512]⟩ : Shape).Idx) :
    extf (F := Ideal) .f32 (truncf .bf16 (Host.dotGeneral (F := Ideal) (φ₁ := .bf16) (φ₂ := .bf16) dot_S512x2048_S2048x512_S512x512_1_0_0_1_n_n none U V) Facts₀.bitsLt_bf16_f32) Facts₀.bitsLt_bf16_f32 x
      = ∑ k : Fin 2048, (U (ValueIdx.ix2 (x 0) k) * V (ValueIdx.ix2 k (x 1)) : EReal) := by
  show Host.dotGeneral (F := Ideal) (φ₁ := .bf16) (φ₂ := .bf16) (DotDims.plain 512 2048 512) none U V x = _
  refine Eq.trans ?_ (StackMember.dotGeneral_plain_apply (φ₁ := .bf16) (φ₂ := .bf16) none U V (x 0) (x 1))
  exact congrArg (Host.dotGeneral (F := Ideal) (φ₁ := .bf16) (φ₂ := .bf16) (DotDims.plain 512 2048 512) none U V) (ValueIdx.eq_ix2 x)

end Reference

/-- On every device the kernel's result is the reference's: the product of the whole operands. -/
theorem value : Cert.algebraic_KernelIdeal_ReferenceIdeal := by
  intro m g m' g' _ hm
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨(h.1 c).1.trans ?_, (h.1 c).2⟩) (Cert.KernelIdeal.Run.run_value (F := Ideal) m g)
  rw [show (fun d : Dev Cert.KernelIdeal.nD => m ((d.tc : Thread Cert.KernelIdeal.nD Cert.KernelIdeal.τ).loc Cert.KernelIdeal.main_arg0)) = _ from funext fun d => (hm d).1,
    show (fun d : Dev Cert.KernelIdeal.nD => m ((d.tc : Thread Cert.KernelIdeal.nD Cert.KernelIdeal.τ).loc Cert.KernelIdeal.main_arg1)) = _ from funext fun d => (hm d).2]
  funext x
  exact (Cert.KernelIdeal.Run.outAt_eq _ _ c x).trans (reference_apply _ _ x).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
